-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_v106) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x256x3584 : Shape := ⟨3, ![3, 256, 3584]⟩
abbrev S1792x18944 : Shape := ⟨2, ![1792, 18944]⟩
abbrev S28x18944x16 : Shape := ⟨3, ![28, 18944, 16]⟩
abbrev S148x1792x128 : Shape := ⟨3, ![148, 1792, 128]⟩
abbrev S768x3584 : Shape := ⟨2, ![768, 3584]⟩
abbrev S28x16x18944 : Shape := ⟨3, ![28, 16, 18944]⟩
abbrev S768x18944 : Shape := ⟨2, ![768, 18944]⟩
abbrev S1792x256 : Shape := ⟨2, ![1792, 256]⟩
abbrev S28x16x256 : Shape := ⟨3, ![28, 16, 256]⟩
abbrev S2x1792x128 : Shape := ⟨3, ![2, 1792, 128]⟩
abbrev S768x256 : Shape := ⟨2, ![768, 256]⟩
abbrev S128x128 : Shape := ⟨2, ![128, 128]⟩
abbrev S1x16x128 : Shape := ⟨3, ![1, 16, 128]⟩
abbrev S16x128 : Shape := ⟨2, ![16, 128]⟩
abbrev S8x128 : Shape := ⟨2, ![8, 128]⟩
abbrev S8x128x1 : Shape := ⟨3, ![8, 128, 1]⟩
abbrev S256x128 : Shape := ⟨2, ![256, 128]⟩
abbrev S1x128x128 : Shape := ⟨3, ![1, 128, 128]⟩
abbrev S256x256 : Shape := ⟨2, ![256, 256]⟩
abbrev S128x256 : Shape := ⟨2, ![128, 256]⟩

abbrev nBuf : Space → Nat
  | .hbm => 8
  | .vmem => 11
  | .smem => 0
  | _ => 0

abbrev bufTy : (tb : Table) → Fin (tcTables nBuf tb) → BufTy
  | .hbm, ⟨0, _⟩ => ⟨S3x256x3584, .bf16⟩
  | .hbm, ⟨1, _⟩ => ⟨S1792x18944, .i8⟩
  | .hbm, ⟨2, _⟩ => ⟨S28x18944x16, .i16⟩
  | .hbm, ⟨3, _⟩ => ⟨S148x1792x128, .i32⟩
  | .hbm, ⟨4, _⟩ => ⟨S768x3584, .bf16⟩
  | .hbm, ⟨5, _⟩ => ⟨S28x16x18944, .i16⟩
  | .hbm, ⟨6, _⟩ => ⟨S768x18944, .bf16⟩
  | .hbm, ⟨7, _⟩ => ⟨S768x18944, .f32⟩
  | .local _ .vmem, ⟨0, _⟩ => ⟨S768x3584, .bf16⟩
  | .local _ .vmem, ⟨1, _⟩ => ⟨S1792x256, .i8⟩
  | .local _ .vmem, ⟨2, _⟩ => ⟨S1792x256, .i8⟩
  | .local _ .vmem, ⟨3, _⟩ => ⟨S28x16x256, .i16⟩
  | .local _ .vmem, ⟨4, _⟩ => ⟨S28x16x256, .i16⟩
  | .local _ .vmem, ⟨5, _⟩ => ⟨S2x1792x128, .i32⟩
  | .local _ .vmem, ⟨6, _⟩ => ⟨S2x1792x128, .i32⟩
  | .local _ .vmem, ⟨7, _⟩ => ⟨S768x256, .bf16⟩
  | .local _ .vmem, ⟨8, _⟩ => ⟨S768x256, .bf16⟩
  | .local _ .vmem, ⟨9, _⟩ => ⟨S768x256, .f32⟩
  | .local _ .vmem, ⟨10, _⟩ => ⟨S768x256, .f32⟩
  | _, _ => ⟨S3x256x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![74], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S768x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1792x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S28x16x256 .i16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x1792x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S768x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S768x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S3x256x3584 : Shape := ⟨3, ![3, 256, 3584]⟩
abbrev S1792x18944 : Shape := ⟨2, ![1792, 18944]⟩
abbrev S28x18944x16 : Shape := ⟨3, ![28, 18944, 16]⟩
abbrev S148x1792x128 : Shape := ⟨3, ![148, 1792, 128]⟩
abbrev S768x3584 : Shape := ⟨2, ![768, 3584]⟩
abbrev S_ : Shape := ⟨0, ![]⟩
abbrev S28x64x18944x1 : Shape := ⟨4, ![28, 64, 18944, 1]⟩
abbrev S28x1x18944x16 : Shape := ⟨4, ![28, 1, 18944, 16]⟩
abbrev S28x1x18944x8 : Shape := ⟨4, ![28, 1, 18944, 8]⟩
abbrev S28x64x18944x8 : Shape := ⟨4, ![28, 64, 18944, 8]⟩
abbrev S28x64x18944x4 : Shape := ⟨4, ![28, 64, 18944, 4]⟩
abbrev S28x64x18944x2 : Shape := ⟨4, ![28, 64, 18944, 2]⟩
abbrev S28x64x18944 : Shape := ⟨3, ![28, 64, 18944]⟩
abbrev S768x1792 : Shape := ⟨2, ![768, 1792]⟩
abbrev S768x18944 : Shape := ⟨2, ![768, 18944]⟩
abbrev S1792x148x128 : Shape := ⟨3, ![1792, 148, 128]⟩

abbrev nBuf : Space → Nat
  | .hbm => 151
  | .vmem => 0
  | .smem => 0
  | _ => 0

abbrev hbmTy0_0 (i : Nat) : BufTy := match i % 128 with
  | 0 => ⟨S3x256x3584, .bf16⟩
  | 1 => ⟨S1792x18944, .i8⟩
  | 2 => ⟨S28x18944x16, .i16⟩
  | 3 => ⟨S148x1792x128, .i32⟩
  | 4 => ⟨S768x3584, .bf16⟩
  | 5 => ⟨S28x18944x16, .bf16⟩
  | 6 => ⟨S1792x18944, .i32⟩
  | 7 => ⟨S_, .i32⟩
  | 8 => ⟨S1792x18944, .i32⟩
  | 9 => ⟨S1792x18944, .i32⟩
  | 10 => ⟨S28x64x18944x1, .i32⟩
  | 11 => ⟨S28x1x18944x16, .bf16⟩
  | 12 => ⟨S_, .i32⟩
  | 13 => ⟨S28x64x18944x1, .i32⟩
  | 14 => ⟨S28x64x18944x1, .i32⟩
  | 15 => ⟨S_, .i32⟩
  | 16 => ⟨S28x64x18944x1, .i32⟩
  | 17 => ⟨S28x64x18944x1, .i32⟩
  | 18 => ⟨S_, .i32⟩
  | 19 => ⟨S28x64x18944x1, .i32⟩
  | 20 => ⟨S28x64x18944x1, .i1⟩
  | 21 => ⟨S28x1x18944x8, .bf16⟩
  | 22 => ⟨S28x1x18944x8, .bf16⟩
  | 23 => ⟨S28x64x18944x8, .i1⟩
  | 24 => ⟨S28x64x18944x8, .bf16⟩
  | 25 => ⟨S28x64x18944x8, .bf16⟩
  | 26 => ⟨S28x64x18944x8, .bf16⟩
  | 27 => ⟨S_, .i32⟩
  | 28 => ⟨S28x64x18944x1, .i32⟩
  | 29 => ⟨S28x64x18944x1, .i32⟩
  | 30 => ⟨S_, .i32⟩
  | 31 => ⟨S28x64x18944x1, .i32⟩
  | 32 => ⟨S28x64x18944x1, .i32⟩
  | 33 => ⟨S_, .i32⟩
  | 34 => ⟨S28x64x18944x1, .i32⟩
  | 35 => ⟨S28x64x18944x1, .i1⟩
  | 36 => ⟨S28x64x18944x4, .bf16⟩
  | 37 => ⟨S28x64x18944x4, .bf16⟩
  | 38 => ⟨S28x64x18944x4, .i1⟩
  | 39 => ⟨S28x64x18944x4, .bf16⟩
  | 40 => ⟨S_, .i32⟩
  | 41 => ⟨S28x64x18944x1, .i32⟩
  | 42 => ⟨S28x64x18944x1, .i32⟩
  | 43 => ⟨S_, .i32⟩
  | 44 => ⟨S28x64x18944x1, .i32⟩
  | 45 => ⟨S28x64x18944x1, .i32⟩
  | 46 => ⟨S_, .i32⟩
  | 47 => ⟨S28x64x18944x1, .i32⟩
  | 48 => ⟨S28x64x18944x1, .i1⟩
  | 49 => ⟨S28x64x18944x2, .bf16⟩
  | 50 => ⟨S28x64x18944x2, .bf16⟩
  | 51 => ⟨S28x64x18944x2, .i1⟩
  | 52 => ⟨S28x64x18944x2, .bf16⟩
  | 53 => ⟨S_, .i32⟩
  | 54 => ⟨S28x64x18944x1, .i32⟩
  | 55 => ⟨S28x64x18944x1, .i32⟩
  | 56 => ⟨S_, .i32⟩
  | 57 => ⟨S28x64x18944x1, .i32⟩
  | 58 => ⟨S28x64x18944x1, .i32⟩
  | 59 => ⟨S_, .i32⟩
  | 60 => ⟨S28x64x18944x1, .i32⟩
  | 61 => ⟨S28x64x18944x1, .i1⟩
  | 62 => ⟨S28x64x18944x1, .bf16⟩
  | 63 => ⟨S28x64x18944x1, .bf16⟩
  | 64 => ⟨S28x64x18944x1, .bf16⟩
  | 65 => ⟨S28x64x18944, .bf16⟩
  | 66 => ⟨S1792x18944, .bf16⟩
  | 67 => ⟨S_, .i32⟩
  | 68 => ⟨S1792x18944, .i32⟩
  | 69 => ⟨S1792x18944, .i32⟩
  | 70 => ⟨S28x64x18944x1, .i32⟩
  | 71 => ⟨S28x1x18944x16, .bf16⟩
  | 72 => ⟨S_, .i32⟩
  | 73 => ⟨S28x64x18944x1, .i32⟩
  | 74 => ⟨S28x64x18944x1, .i32⟩
  | 75 => ⟨S_, .i32⟩
  | 76 => ⟨S28x64x18944x1, .i32⟩
  | 77 => ⟨S28x64x18944x1, .i32⟩
  | 78 => ⟨S_, .i32⟩
  | 79 => ⟨S28x64x18944x1, .i32⟩
  | 80 => ⟨S28x64x18944x1, .i1⟩
  | 81 => ⟨S28x1x18944x8, .bf16⟩
  | 82 => ⟨S28x1x18944x8, .bf16⟩
  | 83 => ⟨S28x64x18944x8, .i1⟩
  | 84 => ⟨S28x64x18944x8, .bf16⟩
  | 85 => ⟨S28x64x18944x8, .bf16⟩
  | 86 => ⟨S28x64x18944x8, .bf16⟩
  | 87 => ⟨S_, .i32⟩
  | 88 => ⟨S28x64x18944x1, .i32⟩
  | 89 => ⟨S28x64x18944x1, .i32⟩
  | 90 => ⟨S_, .i32⟩
  | 91 => ⟨S28x64x18944x1, .i32⟩
  | 92 => ⟨S28x64x18944x1, .i32⟩
  | 93 => ⟨S_, .i32⟩
  | 94 => ⟨S28x64x18944x1, .i32⟩
  | 95 => ⟨S28x64x18944x1, .i1⟩
  | 96 => ⟨S28x64x18944x4, .bf16⟩
  | 97 => ⟨S28x64x18944x4, .bf16⟩
  | 98 => ⟨S28x64x18944x4, .i1⟩
  | 99 => ⟨S28x64x18944x4, .bf16⟩
  | 100 => ⟨S_, .i32⟩
  | 101 => ⟨S28x64x18944x1, .i32⟩
  | 102 => ⟨S28x64x18944x1, .i32⟩
  | 103 => ⟨S_, .i32⟩
  | 104 => ⟨S28x64x18944x1, .i32⟩
  | 105 => ⟨S28x64x18944x1, .i32⟩
  | 106 => ⟨S_, .i32⟩
  | 107 => ⟨S28x64x18944x1, .i32⟩
  | 108 => ⟨S28x64x18944x1, .i1⟩
  | 109 => ⟨S28x64x18944x2, .bf16⟩
  | 110 => ⟨S28x64x18944x2, .bf16⟩
  | 111 => ⟨S28x64x18944x2, .i1⟩
  | 112 => ⟨S28x64x18944x2, .bf16⟩
  | 113 => ⟨S_, .i32⟩
  | 114 => ⟨S28x64x18944x1, .i32⟩
  | 115 => ⟨S28x64x18944x1, .i32⟩
  | 116 => ⟨S_, .i32⟩
  | 117 => ⟨S28x64x18944x1, .i32⟩
  | 118 => ⟨S28x64x18944x1, .i32⟩
  | 119 => ⟨S_, .i32⟩
  | 120 => ⟨S28x64x18944x1, .i32⟩
  | 121 => ⟨S28x64x18944x1, .i1⟩
  | 122 => ⟨S28x64x18944x1, .bf16⟩
  | 123 => ⟨S28x64x18944x1, .bf16⟩
  | 124 => ⟨S28x64x18944x1, .bf16⟩
  | 125 => ⟨S28x64x18944, .bf16⟩
  | 126 => ⟨S1792x18944, .bf16⟩
  | 127 => ⟨S768x1792, .bf16⟩
  | _ => ⟨S3x256x3584, .bf16⟩

abbrev hbmTy0_1 (i : Nat) : BufTy := match i % 128 with
  | 0 => ⟨S768x18944, .f32⟩
  | 1 => ⟨S768x1792, .bf16⟩
  | 2 => ⟨S768x18944, .f32⟩
  | 3 => ⟨S768x18944, .f32⟩
  | 4 => ⟨S1792x148x128, .i32⟩
  | 5 => ⟨S1792x18944, .i32⟩
  | 6 => ⟨S_, .i32⟩
  | 7 => ⟨S1792x18944, .i32⟩
  | 8 => ⟨S1792x18944, .i32⟩
  | 9 => ⟨S1792x18944, .i16⟩
  | 10 => ⟨S1792x18944, .bf16⟩
  | 11 => ⟨S_, .i32⟩
  | 12 => ⟨S1792x18944, .i32⟩
  | 13 => ⟨S1792x18944, .i32⟩
  | 14 => ⟨S1792x18944, .i16⟩
  | 15 => ⟨S1792x18944, .bf16⟩
  | 16 => ⟨S768x1792, .bf16⟩
  | 17 => ⟨S768x18944, .f32⟩
  | 18 => ⟨S768x1792, .bf16⟩
  | 19 => ⟨S768x18944, .f32⟩
  | 20 => ⟨S768x18944, .f32⟩
  | 21 => ⟨S768x18944, .f32⟩
  | 22 => ⟨S768x18944, .bf16⟩
  | _ => ⟨S3x256x3584, .bf16⟩

abbrev hbmTy (i : Nat) : BufTy := match i / 128 with
  | 0 => hbmTy0_0 i
  | 1 => hbmTy0_1 i
  | _ => ⟨S3x256x3584, .bf16⟩

abbrev bufTy : (tb : Table) → Fin (tcTables nBuf tb) → BufTy
  | .hbm, ⟨i, _⟩ => hbmTy i
  | _, _ => ⟨S3x256x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v15 : Ref sig .tc := ⟨.hbm, 26, rfl⟩
abbrev main_c_3 : Ref sig .tc := ⟨.hbm, 27, rfl⟩
abbrev main_v16 : Ref sig .tc := ⟨.hbm, 28, rfl⟩
abbrev main_v17 : Ref sig .tc := ⟨.hbm, 29, rfl⟩
abbrev main_c_4 : Ref sig .tc := ⟨.hbm, 30, rfl⟩
abbrev main_v18 : Ref sig .tc := ⟨.hbm, 31, rfl⟩
abbrev main_v19 : Ref sig .tc := ⟨.hbm, 32, rfl⟩
abbrev main_c_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_call1_v0 : Ref sig .tc := ⟨.hbm, 38, rfl⟩
abbrev main_v24 : Ref sig .tc := ⟨.hbm, 39, rfl⟩
abbrev main_c_6 : Ref sig .tc := ⟨.hbm, 40, rfl⟩
abbrev main_v25 : Ref sig .tc := ⟨.hbm, 41, rfl⟩
abbrev main_v26 : Ref sig .tc := ⟨.hbm, 42, rfl⟩
abbrev main_c_7 : Ref sig .tc := ⟨.hbm, 43, rfl⟩
abbrev main_v27 : Ref sig .tc := ⟨.hbm, 44, rfl⟩
abbrev main_v28 : Ref sig .tc := ⟨.hbm, 45, rfl⟩
abbrev main_c_8 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_call2_v0 : Ref sig .tc := ⟨.hbm, 51, rfl⟩
abbrev main_v33 : Ref sig .tc := ⟨.hbm, 52, rfl⟩
abbrev main_c_9 : Ref sig .tc := ⟨.hbm, 53, rfl⟩
abbrev main_v34 : Ref sig .tc := ⟨.hbm, 54, rfl⟩
abbrev main_v35 : Ref sig .tc := ⟨.hbm, 55, rfl⟩
abbrev main_c_10 : Ref sig .tc := ⟨.hbm, 56, rfl⟩
abbrev main_v36 : Ref sig .tc := ⟨.hbm, 57, rfl⟩
abbrev main_v37 : Ref sig .tc := ⟨.hbm, 58, rfl⟩
abbrev main_c_11 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_c_12 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_c_13 : Ref sig .tc := ⟨.hbm, 72, rfl⟩
abbrev main_v49 : Ref sig .tc := ⟨.hbm, 73, rfl⟩
abbrev main_v50 : Ref sig .tc := ⟨.hbm, 74, rfl⟩
abbrev main_c_14 : Ref sig .tc := ⟨.hbm, 75, rfl⟩
abbrev main_v51 : Ref sig .tc := ⟨.hbm, 76, rfl⟩
abbrev main_v52 : Ref sig .tc := ⟨.hbm, 77, rfl⟩
abbrev main_c_15 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_call4_v0 : Ref sig .tc := ⟨.hbm, 83, rfl⟩
abbrev main_call4_v1 : Ref sig .tc := ⟨.hbm, 84, rfl⟩
abbrev main_call4_v2 : Ref sig .tc := ⟨.hbm, 85, rfl⟩
abbrev main_v57 : Ref sig .tc := ⟨.hbm, 86, rfl⟩
abbrev main_c_16 : Ref sig .tc := ⟨.hbm, 87, rfl⟩
abbrev main_v58 : Ref sig .tc := ⟨.hbm, 88, rfl⟩
abbrev main_v59 : Ref sig .tc := ⟨.hbm, 89, rfl⟩
abbrev main_c_17 : Ref sig .tc := ⟨.hbm, 90, rfl⟩
abbrev main_v60 : Ref sig .tc := ⟨.hbm, 91, rfl⟩
abbrev main_v61 : Ref sig .tc := ⟨.hbm, 92, rfl⟩
abbrev main_c_18 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_call5_v0 : Ref sig .tc := ⟨.hbm, 98, rfl⟩
abbrev main_v66 : Ref sig .tc := ⟨.hbm, 99, rfl⟩
abbrev main_c_19 : Ref sig .tc := ⟨.hbm, 100, rfl⟩
abbrev main_v67 : Ref sig .tc := ⟨.hbm, 101, rfl⟩
abbrev main_v68 : Ref sig .tc := ⟨.hbm, 102, rfl⟩
abbrev main_c_20 : Ref sig .tc := ⟨.hbm, 103, rfl⟩
abbrev main_v69 : Ref sig .tc := ⟨.hbm, 104, rfl⟩
abbrev main_v70 : Ref sig .tc := ⟨.hbm, 105, rfl⟩
abbrev main_c_21 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_call6_v0 : Ref sig .tc := ⟨.hbm, 111, rfl⟩
abbrev main_v75 : Ref sig .tc := ⟨.hbm, 112, rfl⟩
abbrev main_c_22 : Ref sig .tc := ⟨.hbm, 113, rfl⟩
abbrev main_v76 : Ref sig .tc := ⟨.hbm, 114, rfl⟩
abbrev main_v77 : Ref sig .tc := ⟨.hbm, 115, rfl⟩
abbrev main_c_23 : Ref sig .tc := ⟨.hbm, 116, rfl⟩
abbrev main_v78 : Ref sig .tc := ⟨.hbm, 117, rfl⟩
abbrev main_v79 : Ref sig .tc := ⟨.hbm, 118, rfl⟩
abbrev main_c_24 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_c_25 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_c_26 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩

abbrev nD : Nat := 1
abbrev τ : Topo := Topo.v7x

variable {F : FTy → Type} [FloatOps F]
-- ==== Proof.Spec.lean ====
/- What one column block of the linear kernel computes, as functions of the blocks it reads: the decoded tile, the sparse
   tile, one step of the matrix units over a 256-row tile, the chain of the fourteen steps, and the two blocks stored. -/
module

public import Idealize.ShloMosaic.PureOps
public import Idealize.ShloMosaic.Lib.Mxu.Lemmas
public import Idealize.ShloMosaic.Lib.Pipeline.FrameBody

@[expose] public section

noncomputable section

namespace Cert.Spec

open Idealize.ShloMosaic

/-! ## Shapes -/

abbrev T8x128 : Shape := ⟨2, ![8, 128]⟩
abbrev T8x128x1 : Shape := ⟨3, ![8, 128, 1]⟩
abbrev T16x128 : Shape := ⟨2, ![16, 128]⟩
abbrev T1x16x128 : Shape := ⟨3, ![1, 16, 128]⟩
abbrev T128x128 : Shape := ⟨2, ![128, 128]⟩
abbrev T1x128x128 : Shape := ⟨3, ![1, 128, 128]⟩
abbrev T256x128 : Shape := ⟨2, ![256, 128]⟩
abbrev T256x256 : Shape := ⟨2, ![256, 256]⟩
abbrev T128x256 : Shape := ⟨2, ![128, 256]⟩
abbrev T768x3584 : Shape := ⟨2, ![768, 3584]⟩
abbrev T1792x256 : Shape := ⟨2, ![1792, 256]⟩
abbrev T28x16x256 : Shape := ⟨3, ![28, 16, 256]⟩
abbrev T2x1792x128 : Shape := ⟨3, ![2, 1792, 128]⟩
abbrev T768x256 : Shape := ⟨2, ![768, 256]⟩

theorem cat16 : Shape.Concatenates [T8x128, T8x128, T8x128, T8x128, T8x128, T8x128, T8x128, T8x128, T8x128, T8x128, T8x128, T8x128,
    T8x128, T8x128, T8x128, T8x128] T128x128 0 := by decide

theorem cat2 : Shape.Concatenates [T256x128, T256x128] T256x256 1 := by decide

theorem halves : T128x128.Bitcasts 32 T256x128 16 := by decide

variable {F : FTy → Type} [FloatOps F]

/-! ## The decoded tile -/

/-- The sixteen table entries of a group, each as the high half of a word. -/
def entries (t : Vec F T1x16x128 .i16) : IVec T16x128 32 :=
  shli (extui 32 (shapeCast T16x128 t : IVec T16x128 16)) (broadcast T16x128 16#32)

/-- Entries 0 to 7. -/
def front (t : Vec F T1x16x128 .i16) : IVec T8x128 32 := extractStridedSlice T8x128 ![0, 0] (entries t)

/-- Entries 8 to 15. -/
def back (t : Vec F T1x16x128 .i16) : IVec T8x128 32 := extractStridedSlice T8x128 ![8, 0] (entries t)

/-- The table the even rows look up: entry `j` low, entry `j + 8` high. -/
def loTab (t : Vec F T1x16x128 .i16) : IVec T8x128 32 := ori (shrui (front t) (broadcast T8x128 16#32)) (back t)

/-- The table the odd rows look up: entry `j` high, entry `j + 8` low. -/
def hiTab (t : Vec F T1x16x128 .i16) : IVec T8x128 32 := ori (front t) (shrui (back t) (broadcast T8x128 16#32))

/-- Eight word rows decoded from eight code rows `c`: the low nibble's entry in the low half, the high nibble's in the high. -/
def decodeRows (lo hi : IVec T8x128 32) (c : IVec T8x128 32) : IVec T8x128 32 :=
  ori
    (andi
      (shrui (dynamicGather 0 lo (shapeCast T8x128 (shapeCast T8x128x1 (andi c (broadcast T8x128 7#32)))))
        (andi (shli c (broadcast T8x128 1#32)) (broadcast T8x128 16#32)))
      (broadcast T8x128 65535#32))
    (andi
      (shli (dynamicGather 0 hi (shapeCast T8x128 (shapeCast T8x128x1 (andi (shrsi c (broadcast T8x128 4#32)) (broadcast T8x128 7#32)))))
        (andi (shrsi c (broadcast T8x128 3#32)) (broadcast T8x128 16#32)))
      (broadcast T8x128 4294901760#32))

/-- The eight code rows from row `o`, widened. -/
def codeRows (c : Vec F T128x128 .i8) (o : Nat) (h : T128x128.Slices ![o, 0] T8x128) : IVec T8x128 32 :=
  extui 32 (extractStridedSlice T8x128 ![o, 0] (c : IVec T128x128 8) h)

/-- The 128 word rows of one decoded half tile: the first 64 by the table `t0`, the last 64 by the table `t1`. -/
def words (c : Vec F T128x128 .i8) (t0 t1 : Vec F T1x16x128 .i16) : IVec T128x128 32 :=
  concatenate T128x128 0
    [⟨T8x128, decodeRows (loTab t0) (hiTab t0) (codeRows c 0 (by decide))⟩,
     ⟨T8x128, decodeRows (loTab t0) (hiTab t0) (codeRows c 8 (by decide))⟩,
     ⟨T8x128, decodeRows (loTab t0) (hiTab t0) (codeRows c 16 (by decide))⟩,
     ⟨T8x128, decodeRows (loTab t0) (hiTab t0) (codeRows c 24 (by decide))⟩,
     ⟨T8x128, decodeRows (loTab t0) (hiTab t0) (codeRows c 32 (by decide))⟩,
     ⟨T8x128, decodeRows (loTab t0) (hiTab t0) (codeRows c 40 (by decide))⟩,
     ⟨T8x128, decodeRows (loTab t0) (hiTab t0) (codeRows c 48 (by decide))⟩,
     ⟨T8x128, decodeRows (loTab t0) (hiTab t0) (codeRows c 56 (by decide))⟩,
     ⟨T8x128, decodeRows (loTab t1) (hiTab t1) (codeRows c 64 (by decide))⟩,
     ⟨T8x128, decodeRows (loTab t1) (hiTab t1) (codeRows c 72 (by decide))⟩,
     ⟨T8x128, decodeRows (loTab t1) (hiTab t1) (codeRows c 80 (by decide))⟩,
     ⟨T8x128, decodeRows (loTab t1) (hiTab t1) (codeRows c 88 (by decide))⟩,
     ⟨T8x128, decodeRows (loTab t1) (hiTab t1) (codeRows c 96 (by decide))⟩,
     ⟨T8x128, decodeRows (loTab t1) (hiTab t1) (codeRows c 104 (by decide))⟩,
     ⟨T8x128, decodeRows (loTab t1) (hiTab t1) (codeRows c 112 (by decide))⟩,
     ⟨T8x128, decodeRows (loTab t1) (hiTab t1) (codeRows c 120 (by decide))⟩] cat16

/-- 128 word rows read as 256 rows of bf16: a word's low half first. -/
def asRows (w : IVec T128x128 32) : FVec F T256x128 .bf16 := bitcastToFloat .bf16 (bitcast T256x128 16 w halves)

/-- Two half tiles side by side. -/
def sideBySide (a b : FVec F T256x128 .bf16) : FVec F T256x256 .bf16 :=
  concatenate T256x256 1 [⟨T256x128, a⟩, ⟨T256x128, b⟩] cat2

/-! ## What step `k` loads -/

variable (x1 : Vec F T768x3584 .bf16) (x2 : Vec F T1792x256 .i8) (x3 : Vec F T28x16x256 .i16) (x4 : Vec F T2x1792x128 .i32)

theorem inb2 (k : Fin 14) (h : Fin 2) : ∀ a, (![128 * k.val, 128 * h.val] : Fin 2 → Nat) a + T128x128.size a ≤ T1792x256.size a := by
  have := k.isLt; have := h.isLt
  intro a; fin_cases a
  · show 128 * k.val + 128 ≤ 1792; omega
  · show 128 * h.val + 128 ≤ 256; omega

theorem inb3 (k : Fin 14) (g h : Fin 2) :
    ∀ a, (![2 * k.val + g.val, 0, 128 * h.val] : Fin 3 → Nat) a + T1x16x128.size a ≤ T28x16x256.size a := by
  have := k.isLt; have := g.isLt; have := h.isLt
  intro a; fin_cases a
  · show 2 * k.val + g.val + 1 ≤ 28; omega
  · show 0 + 16 ≤ 16; omega
  · show 128 * h.val + 128 ≤ 256; omega

theorem inb4 (k : Fin 14) (h : Fin 2) :
    ∀ a, (![h.val, 128 * k.val, 0] : Fin 3 → Nat) a + T1x128x128.size a ≤ T2x1792x128.size a := by
  have := k.isLt; have := h.isLt
  intro a; fin_cases a
  · show h.val + 1 ≤ 2; omega
  · show 128 * k.val + 128 ≤ 1792; omega
  · show 0 + 128 ≤ 128; omega

theorem inb1 (k : Fin 14) (p : Fin 6) :
    ∀ a, (![128 * p.val, 256 * k.val] : Fin 2 → Nat) a + T128x256.size a ≤ T768x3584.size a := by
  have := k.isLt; have := p.isLt
  intro a; fin_cases a
  · show 128 * p.val + 128 ≤ 768; omega
  · show 256 * k.val + 256 ≤ 3584; omega

/-- The codes of half `h`. -/
def codesAt (k : Fin 14) (h : Fin 2) : Vec F T128x128 .i8 :=
  View.ld x2 (Rect.unit (s := T1792x256) ![128 * k.val, 128 * h.val] T128x128.size (inb2 k h))

/-- The table of group `2k + g`, half `h`. -/
def tableAt (k : Fin 14) (g h : Fin 2) : Vec F T1x16x128 .i16 :=
  View.ld x3 (Rect.unit (s := T28x16x256) ![2 * k.val + g.val, 0, 128 * h.val] T1x16x128.size (inb3 k g h))

/-- The packed sparse words of half `h`. -/
def sparseAt (k : Fin 14) (h : Fin 2) : Vec F T1x128x128 .i32 :=
  View.ld x4 (Rect.unit (s := T2x1792x128) ![h.val, 128 * k.val, 0] T1x128x128.size (inb4 k h))

/-- The activations of row piece `p`. -/
def lhsAt (k : Fin 14) (p : Fin 6) : FVec F T128x256 .bf16 :=
  shapeCast T128x256 (View.ld x1 (Rect.unit (s := T768x3584) ![128 * p.val, 256 * k.val] T128x256.size (inb1 k p))) (.refl _)

/-- The decoded 256 × 256 tile of step `k`. -/
def denseTile (k : Fin 14) : FVec F T256x256 .bf16 :=
  sideBySide (asRows (words (F := F) (codesAt x2 k 0) (tableAt x3 k 0 0) (tableAt x3 k 1 0)))
    (asRows (words (F := F) (codesAt x2 k 1) (tableAt x3 k 0 1) (tableAt x3 k 1 1)))

/-- The sparse 256 × 256 tile of step `k`. -/
def sparseTile (k : Fin 14) : FVec F T256x256 .bf16 :=
  sideBySide (asRows (shapeCast T128x128 (sparseAt x4 k 0 : IVec T1x128x128 32)))
    (asRows (shapeCast T128x128 (sparseAt x4 k 1 : IVec T1x128x128 32)))

/-! ## One step of the matrix units -/

/-- One row piece accumulated on both units against the tiles they hold. -/
def accPair (s : Mxu F) (A : Nat) (h : Mxu.Fits A 128) (lhs : FVec F T128x256 .bf16)
    (h0 : (s.gmr 0).isSome = true) (h1 : (s.gmr 1).isSome = true) : Mxu F :=
  (s.accBy 0 ((s.gmr 0).get h0) A lhs h).accBy 1 ((s.gmr 1).get h1) A lhs h

/-- The first row piece: both units load the tiles just pushed. -/
def loadPair (s : Mxu F) (D S : FVec F T256x256 .bf16) (lhs : FVec F T128x256 .bf16) : Mxu F :=
  (((s.pushed 0 0 false D).pushed 1 0 false S).accLhs 0 0 0 lhs (by decide)).accLhs 1 0 0 lhs (by decide)

/-- One step: the two tiles pushed, the six row pieces accumulated on both units. -/
def tileStep (s : Mxu F) (D S : FVec F T256x256 .bf16) (x : Fin 6 → FVec F T128x256 .bf16) : Mxu F :=
  accPair (accPair (accPair (accPair (accPair (loadPair s D S (x 0))
    32 (by decide) (x 1) rfl rfl) 64 (by decide) (x 2) rfl rfl) 96 (by decide) (x 3) rfl rfl)
    128 (by decide) (x 4) rfl rfl) 160 (by decide) (x 5) rfl rfl

/-- Step `k`. -/
def step (k : Fin 14) (s : Mxu F) : Mxu F := tileStep s (denseTile x2 x3 k) (sparseTile x4 k) (lhsAt x1 k)

/-! ## What is stored -/

/-- The pass of one tile of unit `q` for row piece `p`: unit 0 holds the decoded tile, unit 1 the sparse one. -/
def passAt (q : Fin 2) (p : Fin 6) (k : Fin 14) : FVec F T128x256 .f32 :=
  FloatOps.mxuPass (DotDims.plain 128 256 256) (lhsAt x1 k p) (if q = 0 then denseTile x2 x3 k else sparseTile x4 k)

/-- The accumulated rows of piece `p` on unit `q` after the steps `0 … n`. -/
def chain (q : Fin 2) (p : Fin 6) : (n : Nat) → n < 14 → FVec F T128x256 .f32
  | 0, h => passAt x1 x2 x3 x4 q p ⟨0, h⟩
  | n + 1, h => addf (chain q p n (Nat.lt_of_succ_lt h)) (passAt x1 x2 x3 x4 q p ⟨n + 1, h⟩)

/-- Row piece `p` of the sparse result. -/
def piece6 (p : Fin 6) : FVec F T128x256 .f32 := chain x1 x2 x3 x4 1 p 13 (by decide)

/-- Row piece `p` of the rounded result. -/
def piece5 (p : Fin 6) : FVec F T128x256 .bf16 :=
  truncf .bf16 (addf (chain x1 x2 x3 x4 0 p 13 (by decide)) (chain x1 x2 x3 x4 1 p 13 (by decide)))

theorem inbOut (p : Fin 6) : ∀ a, (![128 * p.val, 0] : Fin 2 → Nat) a + T128x256.size a ≤ T768x256.size a := by
  have := p.isLt
  intro a; fin_cases a
  · show 128 * p.val + 128 ≤ 768; omega
  · show 0 + 256 ≤ 256; omega

/-- The rows of piece `p` in a result block. -/
abbrev rowsOf (p : Fin 6) : Rect T768x256 := Rect.unit (s := T768x256) ![128 * p.val, 0] T128x256.size (inbOut p)

/-- The rounded result's block. -/
def out5 : Vec F T768x256 .bf16 :=
  View.canon [⟨rowsOf 5, piece5 x1 x2 x3 x4 5⟩, ⟨rowsOf 4, piece5 x1 x2 x3 x4 4⟩, ⟨rowsOf 3, piece5 x1 x2 x3 x4 3⟩,
    ⟨rowsOf 2, piece5 x1 x2 x3 x4 2⟩, ⟨rowsOf 1, piece5 x1 x2 x3 x4 1⟩, ⟨rowsOf 0, piece5 x1 x2 x3 x4 0⟩]

/-- The sparse result's block. -/
def out6 : Vec F T768x256 .f32 :=
  View.canon [⟨rowsOf 5, piece6 x1 x2 x3 x4 5⟩, ⟨rowsOf 4, piece6 x1 x2 x3 x4 4⟩, ⟨rowsOf 3, piece6 x1 x2 x3 x4 3⟩,
    ⟨rowsOf 2, piece6 x1 x2 x3 x4 2⟩, ⟨rowsOf 1, piece6 x1 x2 x3 x4 1⟩, ⟨rowsOf 0, piece6 x1 x2 x3 x4 0⟩]

end Cert.Spec

end
-- ==== Proof.Units.lean ====
/- The two matrix units over the fourteen steps: from empty rows, row piece `p` of unit `q` ends at the chain of its passes. -/
module

public import proofs.«01_k».proof.Proof.Spec

@[expose] public section

noncomputable section

namespace Cert.Spec

open Idealize.ShloMosaic

variable {F : FTy → Type} [FloatOps F]

/-- A row piece accumulated on both units against the tiles `t 0` and `t 1`. -/
def both (s : Mxu F) (t : Fin 2 → Mxu.Staged F) (A : Nat) (h : Mxu.Fits A 128) (lhs : FVec F T128x256 .bf16) : Mxu F :=
  (s.accBy 0 (t 0) A lhs h).accBy 1 (t 1) A lhs h

section Both

variable (s : Mxu F) (t : Fin 2 → Mxu.Staged F) (A : Nat) (h : Mxu.Fits A 128) (lhs : FVec F T128x256 .bf16)

theorem accPair_eq {s' : Mxu F} (e : s' = s) (h0 : (s'.gmr 0).isSome = true) (h1 : (s'.gmr 1).isSome = true)
    (e0 : s.gmr 0 = some (t 0)) (e1 : s.gmr 1 = some (t 1)) : accPair s' A h lhs h0 h1 = both s t A h lhs := by
  subst e
  have g0 : (s'.gmr 0).get h0 = t 0 := Option.get_of_eq_some h0 e0
  have g1 : (s'.gmr 1).get h1 = t 1 := Option.get_of_eq_some h1 e1
  unfold accPair both; rw [g0, g1]

theorem gmr_both : (both s t A h lhs).gmr = s.gmr := rfl
theorem reg_both : (both s t A h lhs).reg = s.reg := rfl

/-- Both units' rows at the address are live afterwards, the others as they were. -/
theorem live_both (q : Fin 2) (R : Fin 1024) :
    (both s t A h lhs).live q R = if 4 * A ≤ R.val ∧ R.val < 4 * A + 128 then true else s.live q R := by
  unfold both
  rw [Mxu.live_accBy, Mxu.live_accBy]
  match q with
  | 0 => simp
  | 1 => simp

theorem read_both (q : Fin 2) :
    (both s t A h lhs).read q A h
      = fun i => Mxu.deposit (s.live q (Mxu.row h (i 0))) (s.read q A h i) ((t q).pass lhs i) := by
  unfold both
  match q with
  | 0 => rw [Mxu.read_accBy_ne _ _ _ _ _ _ _ _ _ (.inl (by decide)), Mxu.read_accBy]
  | 1 =>
    rw [Mxu.read_accBy]
    funext i
    rw [Mxu.read_accBy_ne _ _ _ _ _ _ _ _ _ (.inl (by decide)), Mxu.live_accBy]
    simp

theorem read_both_ne (q : Fin 2) (A' : Nat) (h' : Mxu.Fits A' 128) (hne : 4 * A' + 128 ≤ 4 * A ∨ 4 * A + 128 ≤ 4 * A') :
    (both s t A h lhs).read q A' h' = s.read q A' h' := by
  unfold both
  rw [Mxu.read_accBy_ne _ _ _ _ _ _ _ _ _ (.inr hne), Mxu.read_accBy_ne _ _ _ _ _ _ _ _ _ (.inr hne)]

theorem live_both_ne (q : Fin 2) (A' : Nat) (h' : Mxu.Fits A' 128) (r : Fin 128) (hne : 4 * A' + 128 ≤ 4 * A ∨ 4 * A + 128 ≤ 4 * A') :
    (both s t A h lhs).live q (Mxu.row h' r) = s.live q (Mxu.row h' r) := by
  have := r.isLt
  rw [live_both, if_neg]
  dsimp only [Mxu.row]; omega

theorem live_both_row (q : Fin 2) (r : Fin 128) : (both s t A h lhs).live q (Mxu.row h r) = true := by
  have := r.isLt
  rw [live_both, if_pos]
  dsimp only [Mxu.row]; omega

theorem live_both_mono (q : Fin 2) (R : Fin 1024) (hl : s.live q R = true) : (both s t A h lhs).live q R = true := by
  rw [live_both]; split
  · rfl
  · exact hl

end Both

/-- `s'` has the 128 rows at the address as `s` has them. -/
def Same (s s' : Mxu F) (q : Fin 2) (A : Nat) (h : Mxu.Fits A 128) : Prop :=
  s'.read q A h = s.read q A h ∧ ∀ r : Fin 128, s'.live q (Mxu.row h r) = s.live q (Mxu.row h r)

/-- `s'` has the rows of `s` at the address with the pass `v` deposited. -/
def Dep (s s' : Mxu F) (q : Fin 2) (A : Nat) (h : Mxu.Fits A 128) (v : FVec F T128x256 .f32) : Prop :=
  s'.read q A h = fun i => Mxu.deposit (s.live q (Mxu.row h (i 0))) (s.read q A h i) (v i)

section Steps

variable {s s' : Mxu F} {q : Fin 2} {A : Nat} {h : Mxu.Fits A 128}

theorem Same.refl : Same s s q A h := ⟨rfl, fun _ => rfl⟩

theorem Same.both (e : Same s s' q A h) {t : Fin 2 → Mxu.Staged F} {A' : Nat} {h' : Mxu.Fits A' 128} {lhs : FVec F T128x256 .bf16}
    (hne : 4 * A + 128 ≤ 4 * A' ∨ 4 * A' + 128 ≤ 4 * A) : Same s (both s' t A' h' lhs) q A h :=
  ⟨(read_both_ne _ _ _ _ _ _ _ _ hne).trans e.1, fun r => (live_both_ne _ _ _ _ _ _ _ _ r hne).trans (e.2 r)⟩

theorem Dep.both {v : FVec F T128x256 .f32} (e : Dep s s' q A h v) {t : Fin 2 → Mxu.Staged F} {A' : Nat} {h' : Mxu.Fits A' 128}
    {lhs : FVec F T128x256 .bf16} (hne : 4 * A + 128 ≤ 4 * A' ∨ 4 * A' + 128 ≤ 4 * A) : Dep s (both s' t A' h' lhs) q A h v :=
  (read_both_ne _ _ _ _ _ _ _ _ hne).trans e

theorem Same.dep (e : Same s s' q A h) {t : Fin 2 → Mxu.Staged F} {lhs : FVec F T128x256 .bf16} :
    Dep s (Cert.Spec.both s' t A h lhs) q A h ((t q).pass lhs) := by
  refine (read_both _ _ _ _ _ _).trans ?_
  funext i
  exact congrArg₂ (fun b e => Mxu.deposit b e _) (e.2 (i 0)) (congrFun e.1 i)

end Steps

/-- The tiles a step pushes: the decoded one on unit 0, the sparse one on unit 1. -/
def pair (D S : FVec F T256x256 .bf16) : Fin 2 → Mxu.Staged F := fun q => ⟨.bf16, false, if q = 0 then D else S⟩

section Load

variable (s : Mxu F) (D S : FVec F T256x256 .bf16) (lhs : FVec F T128x256 .bf16) (e0 : s.reg 0 0 = none) (e1 : s.reg 1 0 = none)
include e0 e1

theorem staged0 : ((s.pushed 0 0 false D).pushed 1 0 false S).staged 0 0 = pair D S 0 := by
  rw [Mxu.staged_eq, Mxu.reg_pushed_ne _ _ _ _ _ _ _ (by decide), Mxu.reg_pushed_of_none _ _ _ _ _ e0]; rfl

theorem staged1 : (((s.pushed 0 0 false D).pushed 1 0 false S).accLhs 0 0 0 lhs (by decide)).staged 1 0 = pair D S 1 := by
  rw [Mxu.staged_eq, Mxu.reg_accLhs_ne _ _ _ _ _ _ _ _ (by decide), Mxu.reg_pushed_of_none]
  · rfl
  · rw [Mxu.reg_pushed_ne _ _ _ _ _ _ _ (by decide), e1]

theorem gmr_load (q : Fin 2) : (loadPair s D S lhs).gmr q = some (pair D S q) := by
  unfold loadPair
  match q with
  | 0 => rw [Mxu.gmr_accLhs_ne _ _ _ _ _ _ _ (by decide), Mxu.gmr_accLhs, staged0 s D S e0 e1]
  | 1 => rw [Mxu.gmr_accLhs, staged1 s D S lhs e0 e1]

theorem reg_load (q : Fin 2) : (loadPair s D S lhs).reg q 0 = none := by
  unfold loadPair
  match q with
  | 0 => rw [Mxu.reg_accLhs_ne _ _ _ _ _ _ _ _ (by decide), Mxu.reg_accLhs]
  | 1 => rw [Mxu.reg_accLhs]

theorem live_load (q : Fin 2) (R : Fin 1024) :
    (loadPair s D S lhs).live q R = (both s (pair D S) 0 (by decide) lhs).live q R := by
  unfold loadPair both
  rw [Mxu.live_accLhs, Mxu.live_accLhs, Mxu.live_accBy, Mxu.live_accBy, Mxu.live_pushed, Mxu.live_pushed]

theorem read_load (q : Fin 2) (A' : Nat) (h' : Mxu.Fits A' 128) :
    (loadPair s D S lhs).read q A' h' = (both s (pair D S) 0 (by decide) lhs).read q A' h' := by
  have e : (loadPair s D S lhs).acc = (both s (pair D S) 0 (by decide) lhs).acc := by
    have h1 : (loadPair s D S lhs).acc = ((((s.pushed 0 0 false D).pushed 1 0 false S).accBy 0 (pair D S 0) 0 lhs (by decide)).accBy 1 (pair D S 1) 0 lhs (by decide)).acc := by
      rw [← staged1 s D S lhs e0 e1, ← staged0 s D S e0 e1]; rfl
    rw [h1]; unfold both Mxu.accBy; simp only [Mxu.acc_pushed, Mxu.live_pushed]
  unfold Mxu.read; rw [e]

end Load

/-- The five later row pieces. -/
def later (s : Mxu F) (t : Fin 2 → Mxu.Staged F) (x : Fin 6 → FVec F T128x256 .bf16) : Mxu F :=
  both (both (both (both (both s t 32 (by decide) (x 1)) t 64 (by decide) (x 2)) t 96 (by decide) (x 3)) t 128 (by decide) (x 4))
    t 160 (by decide) (x 5)

theorem fitsP (p : Fin 6) : Mxu.Fits (32 * p.val) 128 := by
  have := p.isLt
  unfold Mxu.Fits; omega

section Step

variable (s : Mxu F) (D S : FVec F T256x256 .bf16) (x : Fin 6 → FVec F T128x256 .bf16)
  (e0 : s.reg 0 0 = none) (e1 : s.reg 1 0 = none)
include e0 e1

theorem tileStep_eq : tileStep s D S x = later (loadPair s D S (x 0)) (pair D S) x := by
  have g0 := gmr_load s D S (x 0) e0 e1 0
  have g1 := gmr_load s D S (x 0) e0 e1 1
  exact accPair_eq _ _ _ _ _ (accPair_eq _ _ _ _ _ (accPair_eq _ _ _ _ _ (accPair_eq _ _ _ _ _ (accPair_eq _ _ _ _ _ rfl
    _ _ g0 g1) _ _ g0 g1) _ _ g0 g1) _ _ g0 g1) _ _ g0 g1

theorem reg_tileStep (q : Fin 2) : (tileStep s D S x).reg q 0 = none := by
  rw [tileStep_eq s D S x e0 e1]; exact reg_load s D S (x 0) e0 e1 q

/-- A step deposits each row piece's pass, on each unit. -/
theorem dep_tileStep (q : Fin 2) (p : Fin 6) :
    Dep s (tileStep s D S x) q (32 * p.val) (fitsP p)
      (FloatOps.mxuPass (DotDims.plain 128 256 256) (x p) (if q = 0 then D else S)) := by
  rw [tileStep_eq s D S x e0 e1]; unfold later
  have load : ∀ p : Fin 6, p ≠ 0 → Same s (loadPair s D S (x 0)) q (32 * p.val) (fitsP p) := fun p hp => by
    have hne : 4 * (32 * p.val) + 128 ≤ 4 * 0 ∨ 4 * 0 + 128 ≤ 4 * (32 * p.val) := by
      have : p.val ≠ 0 := fun h => hp (Fin.ext h)
      omega
    have b := (Same.refl (s := s) (q := q) (h := fitsP p)).both (t := pair D S) (A' := 0) (h' := by decide) (lhs := x 0) hne
    exact ⟨(read_load s D S (x 0) e0 e1 q _ _).trans b.1, fun r => (live_load s D S (x 0) e0 e1 q _).trans (b.2 r)⟩
  match p with
  | 0 =>
    have d : Dep s (loadPair s D S (x 0)) q 0 (by decide) (((pair D S) q).pass (x 0)) :=
      (read_load s D S (x 0) e0 e1 q _ _).trans (Same.refl (s := s) (q := q)).dep
    exact ((((d.both (by decide)).both (by decide)).both (by decide)).both (by decide)).both (by decide)
  | 1 => exact (((((load 1 (by decide)).dep).both (by decide)).both (by decide)).both (by decide)).both (by decide)
  | 2 => exact (((((load 2 (by decide)).both (by decide)).dep).both (by decide)).both (by decide)).both (by decide)
  | 3 => exact (((((load 3 (by decide)).both (by decide)).both (by decide)).dep).both (by decide)).both (by decide)
  | 4 => exact (((((load 4 (by decide)).both (by decide)).both (by decide)).both (by decide)).dep).both (by decide)
  | 5 => exact (((((load 5 (by decide)).both (by decide)).both (by decide)).both (by decide)).both (by decide)).dep

/-- After a step every row of every piece is live. -/
theorem live_tileStep (q : Fin 2) (p : Fin 6) (r : Fin 128) : (tileStep s D S x).live q (Mxu.row (fitsP p) r) = true := by
  rw [tileStep_eq s D S x e0 e1]; unfold later
  have hl := live_load s D S (x 0) e0 e1 q
  fin_cases p
  · iterate 5 apply live_both_mono
    rw [hl]; exact live_both_row _ _ _ _ _ _ _
  · iterate 4 apply live_both_mono
    exact live_both_row _ _ _ _ _ _ _
  · iterate 3 apply live_both_mono
    exact live_both_row _ _ _ _ _ _ _
  · iterate 2 apply live_both_mono
    exact live_both_row _ _ _ _ _ _ _
  · apply live_both_mono
    exact live_both_row _ _ _ _ _ _ _
  · exact live_both_row _ _ _ _ _ _ _

end Step

/-! ## The chain -/

variable (x1 : Vec F T768x3584 .bf16) (x2 : Vec F T1792x256 .i8) (x3 : Vec F T28x16x256 .i16) (x4 : Vec F T2x1792x128 .i32)

/-- What the units hold after the steps `0 … n`: no tile staged, every row live, each piece at its chain. -/
structure After (n : Nat) (hn : n < 14) (s : Mxu F) : Prop where
  reg : ∀ q, s.reg q 0 = none
  live : ∀ q p r, s.live q (Mxu.row (fitsP p) r) = true
  read : ∀ q p, s.read q (32 * p.val) (fitsP p) = chain x1 x2 x3 x4 q p n hn

theorem after_first : After x1 x2 x3 x4 0 (by decide) (step x1 x2 x3 x4 0 Mxu.init) where
  reg q := reg_tileStep _ _ _ _ (Mxu.reg_init _ _) (Mxu.reg_init _ _) q
  live q p r := live_tileStep _ _ _ _ (Mxu.reg_init _ _) (Mxu.reg_init _ _) q p r
  read q p := by
    exact (dep_tileStep _ _ _ _ (Mxu.reg_init _ _) (Mxu.reg_init _ _) q p).trans rfl

theorem after_next (n : Nat) (hn : n + 1 < 14) (s : Mxu F) (h : After x1 x2 x3 x4 n (Nat.lt_of_succ_lt hn) s) :
    After x1 x2 x3 x4 (n + 1) hn (step x1 x2 x3 x4 ⟨n + 1, hn⟩ s) where
  reg q := reg_tileStep _ _ _ _ (h.reg 0) (h.reg 1) q
  live q p r := live_tileStep _ _ _ _ (h.reg 0) (h.reg 1) q p r
  read q p := by
    refine (dep_tileStep _ _ _ _ (h.reg 0) (h.reg 1) q p).trans ?_
    funext i
    exact congrArg₂ (fun b e => Mxu.deposit b e _) (h.live q p (i 0)) (congrFun (h.read q p) i)

/-- The first and the next step, of states named otherwise. -/
theorem After.first {s : Mxu F} (e : s = step x1 x2 x3 x4 0 Mxu.init) : After x1 x2 x3 x4 0 (by decide) s := e ▸ after_first x1 x2 x3 x4

variable {x1 x2 x3 x4} in
theorem After.next {n : Nat} {hn : n + 1 < 14} {s s' : Mxu F} (h : After x1 x2 x3 x4 n (Nat.lt_of_succ_lt hn) s)
    (e : s' = step x1 x2 x3 x4 ⟨n + 1, hn⟩ s) : After x1 x2 x3 x4 (n + 1) hn s' := e ▸ after_next x1 x2 x3 x4 n hn s h

/-! ## The pops -/

/-- What is left to pop: of unit `q`, the pieces from `j q` on, each at its chain. -/
def Left (j : Fin 2 → Nat) (s : Mxu F) : Prop :=
  ∀ (q : Fin 2) (p : Fin 6), j q ≤ p.val → s.read q (32 * p.val) (fitsP p) = chain x1 x2 x3 x4 q p 13 (by decide)

variable {x1 x2 x3 x4}

theorem After.left {s : Mxu F} (h : After x1 x2 x3 x4 13 (by decide) s) : Left x1 x2 x3 x4 ![0, 0] s := fun q p _ => h.read q p

/-- Popping piece `p` of unit 0 leaves the rest. -/
theorem Left.pop0 {a b : Nat} {s : Mxu F} (h : Left x1 x2 x3 x4 ![a, b] s) (f : Mxu.Fits (32 * a) 128) :
    Left x1 x2 x3 x4 ![a + 1, b] (s.pop 0 (32 * a) 128 f) := fun q p hp => by
  have hq : q ≠ 0 ∨ a + 1 ≤ p.val := by
    match q with
    | 0 => exact .inr hp
    | 1 => exact .inl (by decide)
  refine (Mxu.read_pop_ne _ _ _ _ _ _ _ (hq.imp id fun h => .inr (by omega))).trans (h q p ?_)
  match q with
  | 0 => exact Nat.le_of_succ_le hp
  | 1 => exact hp

theorem Left.pop0_of {a b : Nat} {s s' : Mxu F} (h : Left x1 x2 x3 x4 ![a, b] s) {f : Mxu.Fits (32 * a) 128}
    (e : s' = s.pop 0 (32 * a) 128 f) : Left x1 x2 x3 x4 ![a + 1, b] s' := e ▸ h.pop0 f

/-- Popping piece `p` of unit 1 leaves the rest. -/
theorem Left.pop1 {a b : Nat} {s : Mxu F} (h : Left x1 x2 x3 x4 ![a, b] s) (f : Mxu.Fits (32 * b) 128) :
    Left x1 x2 x3 x4 ![a, b + 1] (s.pop 1 (32 * b) 128 f) := fun q p hp => by
  have hq : q ≠ 1 ∨ b + 1 ≤ p.val := by
    match q with
    | 0 => exact .inl (by decide)
    | 1 => exact .inr hp
  refine (Mxu.read_pop_ne _ _ _ _ _ _ _ (hq.imp id fun h => .inr (by omega))).trans (h q p ?_)
  match q with
  | 0 => exact hp
  | 1 => exact Nat.le_of_succ_le hp

theorem Left.pop1_of {a b : Nat} {s s' : Mxu F} (h : Left x1 x2 x3 x4 ![a, b] s) {f : Mxu.Fits (32 * b) 128}
    (e : s' = s.pop 1 (32 * b) 128 f) : Left x1 x2 x3 x4 ![a, b + 1] s' := e ▸ h.pop1 f

theorem canon_congr {e : EltTy} {a0 a1 a2 a3 a4 a5 b0 b1 b2 b3 b4 b5 : Vec F T128x256 e}
    (h0 : a0 = b0) (h1 : a1 = b1) (h2 : a2 = b2) (h3 : a3 = b3) (h4 : a4 = b4) (h5 : a5 = b5) :
    View.canon (Val := Elt F) (s := T768x256) (e := e)
        [⟨rowsOf 5, a5⟩, ⟨rowsOf 4, a4⟩, ⟨rowsOf 3, a3⟩, ⟨rowsOf 2, a2⟩, ⟨rowsOf 1, a1⟩, ⟨rowsOf 0, a0⟩]
      = View.canon [⟨rowsOf 5, b5⟩, ⟨rowsOf 4, b4⟩, ⟨rowsOf 3, b3⟩, ⟨rowsOf 2, b2⟩, ⟨rowsOf 1, b1⟩, ⟨rowsOf 0, b0⟩] := by
  subst h0 h1 h2 h3 h4 h5; rfl

/-- Six row pieces fill the block. -/
theorem cover {e : EltTy} (a0 a1 a2 a3 a4 a5 : Vec F T128x256 e) (y : T768x256.Idx) :
    ∃ pc ∈ ([⟨rowsOf 5, a5⟩, ⟨rowsOf 4, a4⟩, ⟨rowsOf 3, a3⟩, ⟨rowsOf 2, a2⟩, ⟨rowsOf 1, a1⟩, ⟨rowsOf 0, a0⟩] :
      List (View.Piece (Elt F) T768x256 e)), y ∈ pc.1.set :=
  View.cover_of_tiled (s := T768x256) (e := e) (Val := Elt F)
    [⟨rowsOf 5, a5⟩, ⟨rowsOf 4, a4⟩, ⟨rowsOf 3, a3⟩, ⟨rowsOf 2, a2⟩, ⟨rowsOf 1, a1⟩, ⟨rowsOf 0, a0⟩] T128x256.size (by rfl) y

/-- A piece of the rounded result from its two chains. -/
theorem piece5_eq {p : Fin 6} {d s : FVec F T128x256 .f32} (hd : d = chain x1 x2 x3 x4 0 p 13 (by decide))
    (hs : s = chain x1 x2 x3 x4 1 p 13 (by decide)) : truncf .bf16 (addf d s) = piece5 x1 x2 x3 x4 p := by
  subst hd hs; rfl

end Cert.Spec

end
-- ==== Proof.RunPrinted.lean ====
/- The body of the linear kernel run once (program `Kernel`): from the four input blocks, the two result blocks are
   `Cert.Spec.out5` and `Cert.Spec.out6` of them. -/
module

public import proofs.«01_k».proof.Proof.Gen.Kernel.Frame
public import proofs.«01_k».proof.Proof.Gen.Kernel.Skeleton
public import proofs.«01_k».proof.Proof.Units
public import Idealize.ShloMosaic.Lib.Claim

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The body is straight-line code of 19,000 statements.
set_option sl_exec.resultNames true in
set_option maxHeartbeats 0 in
set_option maxRecDepth 65536 in
/-- The body's triple. The run names what the matrix units hold after each statement. `a0` to `a13` say what they hold after
    the fourteen steps, `l0` to `l11` what is left before each pop. -/
theorem sound_kernel (c : Dev nD) (E : Set ℕ) (i : grid0.Coords)
    (arg1 : Memref sig .tc .vmem S768x3584 .bf16) (harg1 : arg1.IsWhole) (arg2 : Memref sig .tc .vmem S1792x256 .i8) (harg2 : arg2.IsWhole)
    (arg3 : Memref sig .tc .vmem S28x16x256 .i16) (harg3 : arg3.IsWhole) (arg4 : Memref sig .tc .vmem S2x1792x128 .i32) (harg4 : arg4.IsWhole)
    (arg5 : Memref sig .tc .vmem S768x256 .bf16) (harg5 : arg5.IsWhole) (arg6 : Memref sig .tc .vmem S768x256 .f32) (harg6 : arg6.IsWhole)
    (x1 : Vec F S768x3584 .bf16) (x2 : Vec F S1792x256 .i8) (x3 : Vec F S28x16x256 .i16) (x4 : Vec F S2x1792x128 .i32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d) ∗ (∃ d, owns (c : Thread nD τ) arg6 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (Spec.out5 x1 x2 x3 x4)
            ∗ owns (c : Thread nD τ) arg6 fullShare (Spec.out6 x1 x2 x3 x4)) -∗ K ⟨⟩))
      ⊢ wp frame (wpE (defs₀ (F := F)) Variants.none c none) E (cc0_linear i arg1 harg1 arg2 harg2 arg3 harg3 arg4 harg4 arg5 harg5 arg6 harg6) K := by
  simp only [cc0_linear_eq_skeleton]; unfold cc0_linear_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf1 hf2 hf3 hf4
  sl_exec
  have e0 : sound_kernel.sl.k0_mxu15 c arg1 arg2 arg3 arg4 f1 f2 f3 f4 = Spec.step (arg1.view.read (Elt F) f1) (arg2.view.read (Elt F) f2) (arg3.view.read (Elt F) f3) (arg4.view.read (Elt F) f4) 0 Mxu.init := rfl
  have e1 : sound_kernel.sl.k0_mxu29 c arg1 arg2 arg3 arg4 f1 f2 f3 f4 = Spec.step (arg1.view.read (Elt F) f1) (arg2.view.read (Elt F) f2) (arg3.view.read (Elt F) f3) (arg4.view.read (Elt F) f4) 1 (sound_kernel.sl.k0_mxu15 c arg1 arg2 arg3 arg4 f1 f2 f3 f4) := rfl
  have e2 : sound_kernel.sl.k0_mxu43 c arg1 arg2 arg3 arg4 f1 f2 f3 f4 = Spec.step (arg1.view.read (Elt F) f1) (arg2.view.read (Elt F) f2) (arg3.view.read (Elt F) f3) (arg4.view.read (Elt F) f4) 2 (sound_kernel.sl.k0_mxu29 c arg1 arg2 arg3 arg4 f1 f2 f3 f4) := rfl
  have e3 : sound_kernel.sl.k0_mxu57 c arg1 arg2 arg3 arg4 f1 f2 f3 f4 = Spec.step (arg1.view.read (Elt F) f1) (arg2.view.read (Elt F) f2) (arg3.view.read (Elt F) f3) (arg4.view.read (Elt F) f4) 3 (sound_kernel.sl.k0_mxu43 c arg1 arg2 arg3 arg4 f1 f2 f3 f4) := rfl
  have e4 : sound_kernel.sl.k0_mxu71 c arg1 arg2 arg3 arg4 f1 f2 f3 f4 = Spec.step (arg1.view.read (Elt F) f1) (arg2.view.read (Elt F) f2) (arg3.view.read (Elt F) f3) (arg4.view.read (Elt F) f4) 4 (sound_kernel.sl.k0_mxu57 c arg1 arg2 arg3 arg4 f1 f2 f3 f4) := rfl
  have e5 : sound_kernel.sl.k0_mxu85 c arg1 arg2 arg3 arg4 f1 f2 f3 f4 = Spec.step (arg1.view.read (Elt F) f1) (arg2.view.read (Elt F) f2) (arg3.view.read (Elt F) f3) (arg4.view.read (Elt F) f4) 5 (sound_kernel.sl.k0_mxu71 c arg1 arg2 arg3 arg4 f1 f2 f3 f4) := rfl
  have e6 : sound_kernel.sl.k0_mxu99 c arg1 arg2 arg3 arg4 f1 f2 f3 f4 = Spec.step (arg1.view.read (Elt F) f1) (arg2.view.read (Elt F) f2) (arg3.view.read (Elt F) f3) (arg4.view.read (Elt F) f4) 6 (sound_kernel.sl.k0_mxu85 c arg1 arg2 arg3 arg4 f1 f2 f3 f4) := rfl
  have e7 : sound_kernel.sl.k0_mxu113 c arg1 arg2 arg3 arg4 f1 f2 f3 f4 = Spec.step (arg1.view.read (Elt F) f1) (arg2.view.read (Elt F) f2) (arg3.view.read (Elt F) f3) (arg4.view.read (Elt F) f4) 7 (sound_kernel.sl.k0_mxu99 c arg1 arg2 arg3 arg4 f1 f2 f3 f4) := rfl
  have e8 : sound_kernel.sl.k0_mxu127 c arg1 arg2 arg3 arg4 f1 f2 f3 f4 = Spec.step (arg1.view.read (Elt F) f1) (arg2.view.read (Elt F) f2) (arg3.view.read (Elt F) f3) (arg4.view.read (Elt F) f4) 8 (sound_kernel.sl.k0_mxu113 c arg1 arg2 arg3 arg4 f1 f2 f3 f4) := rfl
  have e9 : sound_kernel.sl.k0_mxu141 c arg1 arg2 arg3 arg4 f1 f2 f3 f4 = Spec.step (arg1.view.read (Elt F) f1) (arg2.view.read (Elt F) f2) (arg3.view.read (Elt F) f3) (arg4.view.read (Elt F) f4) 9 (sound_kernel.sl.k0_mxu127 c arg1 arg2 arg3 arg4 f1 f2 f3 f4) := rfl
  have e10 : sound_kernel.sl.k0_mxu155 c arg1 arg2 arg3 arg4 f1 f2 f3 f4 = Spec.step (arg1.view.read (Elt F) f1) (arg2.view.read (Elt F) f2) (arg3.view.read (Elt F) f3) (arg4.view.read (Elt F) f4) 10 (sound_kernel.sl.k0_mxu141 c arg1 arg2 arg3 arg4 f1 f2 f3 f4) := rfl
  have e11 : sound_kernel.sl.k0_mxu169 c arg1 arg2 arg3 arg4 f1 f2 f3 f4 = Spec.step (arg1.view.read (Elt F) f1) (arg2.view.read (Elt F) f2) (arg3.view.read (Elt F) f3) (arg4.view.read (Elt F) f4) 11 (sound_kernel.sl.k0_mxu155 c arg1 arg2 arg3 arg4 f1 f2 f3 f4) := rfl
  have e12 : sound_kernel.sl.k0_mxu183 c arg1 arg2 arg3 arg4 f1 f2 f3 f4 = Spec.step (arg1.view.read (Elt F) f1) (arg2.view.read (Elt F) f2) (arg3.view.read (Elt F) f3) (arg4.view.read (Elt F) f4) 12 (sound_kernel.sl.k0_mxu169 c arg1 arg2 arg3 arg4 f1 f2 f3 f4) := rfl
  have e13 : sound_kernel.sl.k0_mxu197 c arg1 arg2 arg3 arg4 f1 f2 f3 f4 = Spec.step (arg1.view.read (Elt F) f1) (arg2.view.read (Elt F) f2) (arg3.view.read (Elt F) f3) (arg4.view.read (Elt F) f4) 13 (sound_kernel.sl.k0_mxu183 c arg1 arg2 arg3 arg4 f1 f2 f3 f4) := rfl
  have a0 := Spec.After.first _ _ _ _ e0
  have a1 := a0.next e1
  have a2 := a1.next e2
  have a3 := a2.next e3
  have a4 := a3.next e4
  have a5 := a4.next e5
  have a6 := a5.next e6
  have a7 := a6.next e7
  have a8 := a7.next e8
  have a9 := a8.next e9
  have a10 := a9.next e10
  have a11 := a10.next e11
  have a12 := a11.next e12
  have a13 := a12.next e13
  have l0 := a13.left
  have p1 : sound_kernel.sl.k0_mxu198 c arg1 arg2 arg3 arg4 f1 f2 f3 f4 = (sound_kernel.sl.k0_mxu197 c arg1 arg2 arg3 arg4 f1 f2 f3 f4).pop 0 0 128 (by decide) := rfl
  have p2 : sound_kernel.sl.k0_mxu199 c arg1 arg2 arg3 arg4 f1 f2 f3 f4 = (sound_kernel.sl.k0_mxu198 c arg1 arg2 arg3 arg4 f1 f2 f3 f4).pop 1 0 128 (by decide) := rfl
  have p3 : sound_kernel.sl.k0_mxu200 c arg1 arg2 arg3 arg4 f1 f2 f3 f4 = (sound_kernel.sl.k0_mxu199 c arg1 arg2 arg3 arg4 f1 f2 f3 f4).pop 0 32 128 (by decide) := rfl
  have p4 : sound_kernel.sl.k0_mxu201 c arg1 arg2 arg3 arg4 f1 f2 f3 f4 = (sound_kernel.sl.k0_mxu200 c arg1 arg2 arg3 arg4 f1 f2 f3 f4).pop 1 32 128 (by decide) := rfl
  have p5 : sound_kernel.sl.k0_mxu202 c arg1 arg2 arg3 arg4 f1 f2 f3 f4 = (sound_kernel.sl.k0_mxu201 c arg1 arg2 arg3 arg4 f1 f2 f3 f4).pop 0 64 128 (by decide) := rfl
  have p6 : sound_kernel.sl.k0_mxu203 c arg1 arg2 arg3 arg4 f1 f2 f3 f4 = (sound_kernel.sl.k0_mxu202 c arg1 arg2 arg3 arg4 f1 f2 f3 f4).pop 1 64 128 (by decide) := rfl
  have p7 : sound_kernel.sl.k0_mxu204 c arg1 arg2 arg3 arg4 f1 f2 f3 f4 = (sound_kernel.sl.k0_mxu203 c arg1 arg2 arg3 arg4 f1 f2 f3 f4).pop 0 96 128 (by decide) := rfl
  have p8 : sound_kernel.sl.k0_mxu205 c arg1 arg2 arg3 arg4 f1 f2 f3 f4 = (sound_kernel.sl.k0_mxu204 c arg1 arg2 arg3 arg4 f1 f2 f3 f4).pop 1 96 128 (by decide) := rfl
  have p9 : sound_kernel.sl.k0_mxu206 c arg1 arg2 arg3 arg4 f1 f2 f3 f4 = (sound_kernel.sl.k0_mxu205 c arg1 arg2 arg3 arg4 f1 f2 f3 f4).pop 0 128 128 (by decide) := rfl
  have p10 : sound_kernel.sl.k0_mxu207 c arg1 arg2 arg3 arg4 f1 f2 f3 f4 = (sound_kernel.sl.k0_mxu206 c arg1 arg2 arg3 arg4 f1 f2 f3 f4).pop 1 128 128 (by decide) := rfl
  have p11 : sound_kernel.sl.k0_mxu208 c arg1 arg2 arg3 arg4 f1 f2 f3 f4 = (sound_kernel.sl.k0_mxu207 c arg1 arg2 arg3 arg4 f1 f2 f3 f4).pop 0 160 128 (by decide) := rfl
  have l1 : Spec.Left (arg1.view.read (Elt F) f1) (arg2.view.read (Elt F) f2) (arg3.view.read (Elt F) f3) (arg4.view.read (Elt F) f4) ![1, 0] (sound_kernel.sl.k0_mxu198 c arg1 arg2 arg3 arg4 f1 f2 f3 f4) := l0.pop0_of p1
  have l2 : Spec.Left (arg1.view.read (Elt F) f1) (arg2.view.read (Elt F) f2) (arg3.view.read (Elt F) f3) (arg4.view.read (Elt F) f4) ![1, 1] (sound_kernel.sl.k0_mxu199 c arg1 arg2 arg3 arg4 f1 f2 f3 f4) := l1.pop1_of p2
  have l3 : Spec.Left (arg1.view.read (Elt F) f1) (arg2.view.read (Elt F) f2) (arg3.view.read (Elt F) f3) (arg4.view.read (Elt F) f4) ![2, 1] (sound_kernel.sl.k0_mxu200 c arg1 arg2 arg3 arg4 f1 f2 f3 f4) := l2.pop0_of p3
  have l4 : Spec.Left (arg1.view.read (Elt F) f1) (arg2.view.read (Elt F) f2) (arg3.view.read (Elt F) f3) (arg4.view.read (Elt F) f4) ![2, 2] (sound_kernel.sl.k0_mxu201 c arg1 arg2 arg3 arg4 f1 f2 f3 f4) := l3.pop1_of p4
  have l5 : Spec.Left (arg1.view.read (Elt F) f1) (arg2.view.read (Elt F) f2) (arg3.view.read (Elt F) f3) (arg4.view.read (Elt F) f4) ![3, 2] (sound_kernel.sl.k0_mxu202 c arg1 arg2 arg3 arg4 f1 f2 f3 f4) := l4.pop0_of p5
  have l6 : Spec.Left (arg1.view.read (Elt F) f1) (arg2.view.read (Elt F) f2) (arg3.view.read (Elt F) f3) (arg4.view.read (Elt F) f4) ![3, 3] (sound_kernel.sl.k0_mxu203 c arg1 arg2 arg3 arg4 f1 f2 f3 f4) := l5.pop1_of p6
  have l7 : Spec.Left (arg1.view.read (Elt F) f1) (arg2.view.read (Elt F) f2) (arg3.view.read (Elt F) f3) (arg4.view.read (Elt F) f4) ![4, 3] (sound_kernel.sl.k0_mxu204 c arg1 arg2 arg3 arg4 f1 f2 f3 f4) := l6.pop0_of p7
  have l8 : Spec.Left (arg1.view.read (Elt F) f1) (arg2.view.read (Elt F) f2) (arg3.view.read (Elt F) f3) (arg4.view.read (Elt F) f4) ![4, 4] (sound_kernel.sl.k0_mxu205 c arg1 arg2 arg3 arg4 f1 f2 f3 f4) := l7.pop1_of p8
  have l9 : Spec.Left (arg1.view.read (Elt F) f1) (arg2.view.read (Elt F) f2) (arg3.view.read (Elt F) f3) (arg4.view.read (Elt F) f4) ![5, 4] (sound_kernel.sl.k0_mxu206 c arg1 arg2 arg3 arg4 f1 f2 f3 f4) := l8.pop0_of p9
  have l10 : Spec.Left (arg1.view.read (Elt F) f1) (arg2.view.read (Elt F) f2) (arg3.view.read (Elt F) f3) (arg4.view.read (Elt F) f4) ![5, 5] (sound_kernel.sl.k0_mxu207 c arg1 arg2 arg3 arg4 f1 f2 f3 f4) := l9.pop1_of p10
  have l11 : Spec.Left (arg1.view.read (Elt F) f1) (arg2.view.read (Elt F) f2) (arg3.view.read (Elt F) f3) (arg4.view.read (Elt F) f4) ![6, 5] (sound_kernel.sl.k0_mxu208 c arg1 arg2 arg3 arg4 f1 f2 f3 f4) := l10.pop0_of p11
  have v0 : sound_kernel.sl.v14084_r0 c arg1 arg2 arg3 arg4 f1 f2 f3 f4 = Spec.chain (arg1.view.read (Elt F) f1) (arg2.view.read (Elt F) f2) (arg3.view.read (Elt F) f3) (arg4.view.read (Elt F) f4) 0 0 13 (by decide) := l0 0 0 (by decide)
  have v1 : sound_kernel.sl.v14085_r0 c arg1 arg2 arg3 arg4 f1 f2 f3 f4 = Spec.chain (arg1.view.read (Elt F) f1) (arg2.view.read (Elt F) f2) (arg3.view.read (Elt F) f3) (arg4.view.read (Elt F) f4) 1 0 13 (by decide) := l1 1 0 (by decide)
  have v2 : sound_kernel.sl.v14090_r0 c arg1 arg2 arg3 arg4 f1 f2 f3 f4 = Spec.chain (arg1.view.read (Elt F) f1) (arg2.view.read (Elt F) f2) (arg3.view.read (Elt F) f3) (arg4.view.read (Elt F) f4) 0 1 13 (by decide) := l2 0 1 (by decide)
  have v3 : sound_kernel.sl.v14091_r0 c arg1 arg2 arg3 arg4 f1 f2 f3 f4 = Spec.chain (arg1.view.read (Elt F) f1) (arg2.view.read (Elt F) f2) (arg3.view.read (Elt F) f3) (arg4.view.read (Elt F) f4) 1 1 13 (by decide) := l3 1 1 (by decide)
  have v4 : sound_kernel.sl.v14096_r0 c arg1 arg2 arg3 arg4 f1 f2 f3 f4 = Spec.chain (arg1.view.read (Elt F) f1) (arg2.view.read (Elt F) f2) (arg3.view.read (Elt F) f3) (arg4.view.read (Elt F) f4) 0 2 13 (by decide) := l4 0 2 (by decide)
  have v5 : sound_kernel.sl.v14097_r0 c arg1 arg2 arg3 arg4 f1 f2 f3 f4 = Spec.chain (arg1.view.read (Elt F) f1) (arg2.view.read (Elt F) f2) (arg3.view.read (Elt F) f3) (arg4.view.read (Elt F) f4) 1 2 13 (by decide) := l5 1 2 (by decide)
  have v6 : sound_kernel.sl.v14102_r0 c arg1 arg2 arg3 arg4 f1 f2 f3 f4 = Spec.chain (arg1.view.read (Elt F) f1) (arg2.view.read (Elt F) f2) (arg3.view.read (Elt F) f3) (arg4.view.read (Elt F) f4) 0 3 13 (by decide) := l6 0 3 (by decide)
  have v7 : sound_kernel.sl.v14103_r0 c arg1 arg2 arg3 arg4 f1 f2 f3 f4 = Spec.chain (arg1.view.read (Elt F) f1) (arg2.view.read (Elt F) f2) (arg3.view.read (Elt F) f3) (arg4.view.read (Elt F) f4) 1 3 13 (by decide) := l7 1 3 (by decide)
  have v8 : sound_kernel.sl.v14108_r0 c arg1 arg2 arg3 arg4 f1 f2 f3 f4 = Spec.chain (arg1.view.read (Elt F) f1) (arg2.view.read (Elt F) f2) (arg3.view.read (Elt F) f3) (arg4.view.read (Elt F) f4) 0 4 13 (by decide) := l8 0 4 (by decide)
  have v9 : sound_kernel.sl.v14109_r0 c arg1 arg2 arg3 arg4 f1 f2 f3 f4 = Spec.chain (arg1.view.read (Elt F) f1) (arg2.view.read (Elt F) f2) (arg3.view.read (Elt F) f3) (arg4.view.read (Elt F) f4) 1 4 13 (by decide) := l9 1 4 (by decide)
  have v10 : sound_kernel.sl.v14114_r0 c arg1 arg2 arg3 arg4 f1 f2 f3 f4 = Spec.chain (arg1.view.read (Elt F) f1) (arg2.view.read (Elt F) f2) (arg3.view.read (Elt F) f3) (arg4.view.read (Elt F) f4) 0 5 13 (by decide) := l10 0 5 (by decide)
  have v11 : sound_kernel.sl.v14115_r0 c arg1 arg2 arg3 arg4 f1 f2 f3 f4 = Spec.chain (arg1.view.read (Elt F) f1) (arg2.view.read (Elt F) f2) (arg3.view.read (Elt F) f3) (arg4.view.read (Elt F) f4) 1 5 13 (by decide) := l11 1 5 (by decide)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (Spec.cover _ _ _ _ _ _)).trans ?_
    exact Spec.canon_congr (Spec.piece5_eq v0 v1) (Spec.piece5_eq v2 v3)
      (Spec.piece5_eq v4 v5) (Spec.piece5_eq v6 v7)
      (Spec.piece5_eq v8 v9) (Spec.piece5_eq v10 v11)
  · iexists _; isplitr
    swap; · iexact H6
    ipureintro
    refine (View.read_writes_eq_canon _ _ _ (Spec.cover _ _ _ _ _ _)).trans ?_
    exact Spec.canon_congr v1 v3 v5 v7 v9
      v11

end Cert.Kernel.Hand

end
-- ==== Proof.FramePrinted.lean ====
/- The launch of the linear kernel (program `Kernel`): its grid of 74 column blocks run, and the frame. -/
module

public import proofs.«01_k».proof.Proof.RunPrinted

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- After the body at point `t` each input's buffer holds its block and the results' buffers hold what the body stores. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => Spec.out5 (iblk m c 0 t) (iblk m c 1 t) (iblk m c 2 t) (iblk m c 3 t)
    | ⟨5, _⟩ => Spec.out6 (iblk m c 0 t) (iblk m c 1 t) (iblk m c 2 t) (iblk m c 3 t)
  Φ _ := Pipeline.ΦA spec0 c
  q _ := fullShare
  owed _ := 0

/-- The arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = Spec.out5 (iblk m c 0 t) (iblk m c 1 t) (iblk m c 2 t) (iblk m c 3 t) := by dsimp only [dats]
theorem after0_5 (c : Dev nD) (t : Fin cfg0.N) :
    (dats m 0 c).after 5 t = Spec.out6 (iblk m c 0 t) (iblk m c 1 t) (iblk m c 2 t) (iblk m c 3 t) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- The implicit arguments are found by unifying conclusions, which takes unfolding plain definitions in a metavariable's type.
set_option backward.isDefEq.respectTransparency.types false in
set_option maxRecDepth 8192 in
/-- The launch, and every semaphore counter at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every weakly fair execution of @main terminates with every array of the pipeline at what the proof data give. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Hand

end
-- ==== Proof.RunIdeal.lean ====
/- The body of the linear kernel run once (program `KernelIdeal`): from the four input blocks, the two result blocks are
   `Cert.Spec.out5` and `Cert.Spec.out6` of them. -/
module

public import proofs.«01_k».proof.Proof.Gen.KernelIdeal.Frame
public import proofs.«01_k».proof.Proof.Gen.KernelIdeal.Skeleton
public import proofs.«01_k».proof.Proof.Units
public import Idealize.ShloMosaic.Lib.Claim

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The body is straight-line code of 19,000 statements.
set_option sl_exec.resultNames true in
set_option maxHeartbeats 0 in
set_option maxRecDepth 65536 in
/-- The body's triple. The run names what the matrix units hold after each statement. `a0` to `a13` say what they hold after
    the fourteen steps, `l0` to `l11` what is left before each pop. -/
theorem sound_kernel (c : Dev nD) (E : Set ℕ) (i : grid0.Coords)
    (arg1 : Memref sig .tc .vmem S768x3584 .bf16) (harg1 : arg1.IsWhole) (arg2 : Memref sig .tc .vmem S1792x256 .i8) (harg2 : arg2.IsWhole)
    (arg3 : Memref sig .tc .vmem S28x16x256 .i16) (harg3 : arg3.IsWhole) (arg4 : Memref sig .tc .vmem S2x1792x128 .i32) (harg4 : arg4.IsWhole)
    (arg5 : Memref sig .tc .vmem S768x256 .bf16) (harg5 : arg5.IsWhole) (arg6 : Memref sig .tc .vmem S768x256 .f32) (harg6 : arg6.IsWhole)
    (x1 : Vec F S768x3584 .bf16) (x2 : Vec F S1792x256 .i8) (x3 : Vec F S28x16x256 .i16) (x4 : Vec F S2x1792x128 .i32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d) ∗ (∃ d, owns (c : Thread nD τ) arg6 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (Spec.out5 x1 x2 x3 x4)
            ∗ owns (c : Thread nD τ) arg6 fullShare (Spec.out6 x1 x2 x3 x4)) -∗ K ⟨⟩))
      ⊢ wp frame (wpE (defs₀ (F := F)) Variants.none c none) E (cc0_linear i arg1 harg1 arg2 harg2 arg3 harg3 arg4 harg4 arg5 harg5 arg6 harg6) K := by
  simp only [cc0_linear_eq_skeleton]; unfold cc0_linear_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf1 hf2 hf3 hf4
  sl_exec
  have e0 : sound_kernel.sl.k0_mxu15 c arg1 arg2 arg3 arg4 f1 f2 f3 f4 = Spec.step (arg1.view.read (Elt F) f1) (arg2.view.read (Elt F) f2) (arg3.view.read (Elt F) f3) (arg4.view.read (Elt F) f4) 0 Mxu.init := rfl
  have e1 : sound_kernel.sl.k0_mxu29 c arg1 arg2 arg3 arg4 f1 f2 f3 f4 = Spec.step (arg1.view.read (Elt F) f1) (arg2.view.read (Elt F) f2) (arg3.view.read (Elt F) f3) (arg4.view.read (Elt F) f4) 1 (sound_kernel.sl.k0_mxu15 c arg1 arg2 arg3 arg4 f1 f2 f3 f4) := rfl
  have e2 : sound_kernel.sl.k0_mxu43 c arg1 arg2 arg3 arg4 f1 f2 f3 f4 = Spec.step (arg1.view.read (Elt F) f1) (arg2.view.read (Elt F) f2) (arg3.view.read (Elt F) f3) (arg4.view.read (Elt F) f4) 2 (sound_kernel.sl.k0_mxu29 c arg1 arg2 arg3 arg4 f1 f2 f3 f4) := rfl
  have e3 : sound_kernel.sl.k0_mxu57 c arg1 arg2 arg3 arg4 f1 f2 f3 f4 = Spec.step (arg1.view.read (Elt F) f1) (arg2.view.read (Elt F) f2) (arg3.view.read (Elt F) f3) (arg4.view.read (Elt F) f4) 3 (sound_kernel.sl.k0_mxu43 c arg1 arg2 arg3 arg4 f1 f2 f3 f4) := rfl
  have e4 : sound_kernel.sl.k0_mxu71 c arg1 arg2 arg3 arg4 f1 f2 f3 f4 = Spec.step (arg1.view.read (Elt F) f1) (arg2.view.read (Elt F) f2) (arg3.view.read (Elt F) f3) (arg4.view.read (Elt F) f4) 4 (sound_kernel.sl.k0_mxu57 c arg1 arg2 arg3 arg4 f1 f2 f3 f4) := rfl
  have e5 : sound_kernel.sl.k0_mxu85 c arg1 arg2 arg3 arg4 f1 f2 f3 f4 = Spec.step (arg1.view.read (Elt F) f1) (arg2.view.read (Elt F) f2) (arg3.view.read (Elt F) f3) (arg4.view.read (Elt F) f4) 5 (sound_kernel.sl.k0_mxu71 c arg1 arg2 arg3 arg4 f1 f2 f3 f4) := rfl
  have e6 : sound_kernel.sl.k0_mxu99 c arg1 arg2 arg3 arg4 f1 f2 f3 f4 = Spec.step (arg1.view.read (Elt F) f1) (arg2.view.read (Elt F) f2) (arg3.view.read (Elt F) f3) (arg4.view.read (Elt F) f4) 6 (sound_kernel.sl.k0_mxu85 c arg1 arg2 arg3 arg4 f1 f2 f3 f4) := rfl
  have e7 : sound_kernel.sl.k0_mxu113 c arg1 arg2 arg3 arg4 f1 f2 f3 f4 = Spec.step (arg1.view.read (Elt F) f1) (arg2.view.read (Elt F) f2) (arg3.view.read (Elt F) f3) (arg4.view.read (Elt F) f4) 7 (sound_kernel.sl.k0_mxu99 c arg1 arg2 arg3 arg4 f1 f2 f3 f4) := rfl
  have e8 : sound_kernel.sl.k0_mxu127 c arg1 arg2 arg3 arg4 f1 f2 f3 f4 = Spec.step (arg1.view.read (Elt F) f1) (arg2.view.read (Elt F) f2) (arg3.view.read (Elt F) f3) (arg4.view.read (Elt F) f4) 8 (sound_kernel.sl.k0_mxu113 c arg1 arg2 arg3 arg4 f1 f2 f3 f4) := rfl
  have e9 : sound_kernel.sl.k0_mxu141 c arg1 arg2 arg3 arg4 f1 f2 f3 f4 = Spec.step (arg1.view.read (Elt F) f1) (arg2.view.read (Elt F) f2) (arg3.view.read (Elt F) f3) (arg4.view.read (Elt F) f4) 9 (sound_kernel.sl.k0_mxu127 c arg1 arg2 arg3 arg4 f1 f2 f3 f4) := rfl
  have e10 : sound_kernel.sl.k0_mxu155 c arg1 arg2 arg3 arg4 f1 f2 f3 f4 = Spec.step (arg1.view.read (Elt F) f1) (arg2.view.read (Elt F) f2) (arg3.view.read (Elt F) f3) (arg4.view.read (Elt F) f4) 10 (sound_kernel.sl.k0_mxu141 c arg1 arg2 arg3 arg4 f1 f2 f3 f4) := rfl
  have e11 : sound_kernel.sl.k0_mxu169 c arg1 arg2 arg3 arg4 f1 f2 f3 f4 = Spec.step (arg1.view.read (Elt F) f1) (arg2.view.read (Elt F) f2) (arg3.view.read (Elt F) f3) (arg4.view.read (Elt F) f4) 11 (sound_kernel.sl.k0_mxu155 c arg1 arg2 arg3 arg4 f1 f2 f3 f4) := rfl
  have e12 : sound_kernel.sl.k0_mxu183 c arg1 arg2 arg3 arg4 f1 f2 f3 f4 = Spec.step (arg1.view.read (Elt F) f1) (arg2.view.read (Elt F) f2) (arg3.view.read (Elt F) f3) (arg4.view.read (Elt F) f4) 12 (sound_kernel.sl.k0_mxu169 c arg1 arg2 arg3 arg4 f1 f2 f3 f4) := rfl
  have e13 : sound_kernel.sl.k0_mxu197 c arg1 arg2 arg3 arg4 f1 f2 f3 f4 = Spec.step (arg1.view.read (Elt F) f1) (arg2.view.read (Elt F) f2) (arg3.view.read (Elt F) f3) (arg4.view.read (Elt F) f4) 13 (sound_kernel.sl.k0_mxu183 c arg1 arg2 arg3 arg4 f1 f2 f3 f4) := rfl
  have a0 := Spec.After.first _ _ _ _ e0
  have a1 := a0.next e1
  have a2 := a1.next e2
  have a3 := a2.next e3
  have a4 := a3.next e4
  have a5 := a4.next e5
  have a6 := a5.next e6
  have a7 := a6.next e7
  have a8 := a7.next e8
  have a9 := a8.next e9
  have a10 := a9.next e10
  have a11 := a10.next e11
  have a12 := a11.next e12
  have a13 := a12.next e13
  have l0 := a13.left
  have p1 : sound_kernel.sl.k0_mxu198 c arg1 arg2 arg3 arg4 f1 f2 f3 f4 = (sound_kernel.sl.k0_mxu197 c arg1 arg2 arg3 arg4 f1 f2 f3 f4).pop 0 0 128 (by decide) := rfl
  have p2 : sound_kernel.sl.k0_mxu199 c arg1 arg2 arg3 arg4 f1 f2 f3 f4 = (sound_kernel.sl.k0_mxu198 c arg1 arg2 arg3 arg4 f1 f2 f3 f4).pop 1 0 128 (by decide) := rfl
  have p3 : sound_kernel.sl.k0_mxu200 c arg1 arg2 arg3 arg4 f1 f2 f3 f4 = (sound_kernel.sl.k0_mxu199 c arg1 arg2 arg3 arg4 f1 f2 f3 f4).pop 0 32 128 (by decide) := rfl
  have p4 : sound_kernel.sl.k0_mxu201 c arg1 arg2 arg3 arg4 f1 f2 f3 f4 = (sound_kernel.sl.k0_mxu200 c arg1 arg2 arg3 arg4 f1 f2 f3 f4).pop 1 32 128 (by decide) := rfl
  have p5 : sound_kernel.sl.k0_mxu202 c arg1 arg2 arg3 arg4 f1 f2 f3 f4 = (sound_kernel.sl.k0_mxu201 c arg1 arg2 arg3 arg4 f1 f2 f3 f4).pop 0 64 128 (by decide) := rfl
  have p6 : sound_kernel.sl.k0_mxu203 c arg1 arg2 arg3 arg4 f1 f2 f3 f4 = (sound_kernel.sl.k0_mxu202 c arg1 arg2 arg3 arg4 f1 f2 f3 f4).pop 1 64 128 (by decide) := rfl
  have p7 : sound_kernel.sl.k0_mxu204 c arg1 arg2 arg3 arg4 f1 f2 f3 f4 = (sound_kernel.sl.k0_mxu203 c arg1 arg2 arg3 arg4 f1 f2 f3 f4).pop 0 96 128 (by decide) := rfl
  have p8 : sound_kernel.sl.k0_mxu205 c arg1 arg2 arg3 arg4 f1 f2 f3 f4 = (sound_kernel.sl.k0_mxu204 c arg1 arg2 arg3 arg4 f1 f2 f3 f4).pop 1 96 128 (by decide) := rfl
  have p9 : sound_kernel.sl.k0_mxu206 c arg1 arg2 arg3 arg4 f1 f2 f3 f4 = (sound_kernel.sl.k0_mxu205 c arg1 arg2 arg3 arg4 f1 f2 f3 f4).pop 0 128 128 (by decide) := rfl
  have p10 : sound_kernel.sl.k0_mxu207 c arg1 arg2 arg3 arg4 f1 f2 f3 f4 = (sound_kernel.sl.k0_mxu206 c arg1 arg2 arg3 arg4 f1 f2 f3 f4).pop 1 128 128 (by decide) := rfl
  have p11 : sound_kernel.sl.k0_mxu208 c arg1 arg2 arg3 arg4 f1 f2 f3 f4 = (sound_kernel.sl.k0_mxu207 c arg1 arg2 arg3 arg4 f1 f2 f3 f4).pop 0 160 128 (by decide) := rfl
  have l1 : Spec.Left (arg1.view.read (Elt F) f1) (arg2.view.read (Elt F) f2) (arg3.view.read (Elt F) f3) (arg4.view.read (Elt F) f4) ![1, 0] (sound_kernel.sl.k0_mxu198 c arg1 arg2 arg3 arg4 f1 f2 f3 f4) := l0.pop0_of p1
  have l2 : Spec.Left (arg1.view.read (Elt F) f1) (arg2.view.read (Elt F) f2) (arg3.view.read (Elt F) f3) (arg4.view.read (Elt F) f4) ![1, 1] (sound_kernel.sl.k0_mxu199 c arg1 arg2 arg3 arg4 f1 f2 f3 f4) := l1.pop1_of p2
  have l3 : Spec.Left (arg1.view.read (Elt F) f1) (arg2.view.read (Elt F) f2) (arg3.view.read (Elt F) f3) (arg4.view.read (Elt F) f4) ![2, 1] (sound_kernel.sl.k0_mxu200 c arg1 arg2 arg3 arg4 f1 f2 f3 f4) := l2.pop0_of p3
  have l4 : Spec.Left (arg1.view.read (Elt F) f1) (arg2.view.read (Elt F) f2) (arg3.view.read (Elt F) f3) (arg4.view.read (Elt F) f4) ![2, 2] (sound_kernel.sl.k0_mxu201 c arg1 arg2 arg3 arg4 f1 f2 f3 f4) := l3.pop1_of p4
  have l5 : Spec.Left (arg1.view.read (Elt F) f1) (arg2.view.read (Elt F) f2) (arg3.view.read (Elt F) f3) (arg4.view.read (Elt F) f4) ![3, 2] (sound_kernel.sl.k0_mxu202 c arg1 arg2 arg3 arg4 f1 f2 f3 f4) := l4.pop0_of p5
  have l6 : Spec.Left (arg1.view.read (Elt F) f1) (arg2.view.read (Elt F) f2) (arg3.view.read (Elt F) f3) (arg4.view.read (Elt F) f4) ![3, 3] (sound_kernel.sl.k0_mxu203 c arg1 arg2 arg3 arg4 f1 f2 f3 f4) := l5.pop1_of p6
  have l7 : Spec.Left (arg1.view.read (Elt F) f1) (arg2.view.read (Elt F) f2) (arg3.view.read (Elt F) f3) (arg4.view.read (Elt F) f4) ![4, 3] (sound_kernel.sl.k0_mxu204 c arg1 arg2 arg3 arg4 f1 f2 f3 f4) := l6.pop0_of p7
  have l8 : Spec.Left (arg1.view.read (Elt F) f1) (arg2.view.read (Elt F) f2) (arg3.view.read (Elt F) f3) (arg4.view.read (Elt F) f4) ![4, 4] (sound_kernel.sl.k0_mxu205 c arg1 arg2 arg3 arg4 f1 f2 f3 f4) := l7.pop1_of p8
  have l9 : Spec.Left (arg1.view.read (Elt F) f1) (arg2.view.read (Elt F) f2) (arg3.view.read (Elt F) f3) (arg4.view.read (Elt F) f4) ![5, 4] (sound_kernel.sl.k0_mxu206 c arg1 arg2 arg3 arg4 f1 f2 f3 f4) := l8.pop0_of p9
  have l10 : Spec.Left (arg1.view.read (Elt F) f1) (arg2.view.read (Elt F) f2) (arg3.view.read (Elt F) f3) (arg4.view.read (Elt F) f4) ![5, 5] (sound_kernel.sl.k0_mxu207 c arg1 arg2 arg3 arg4 f1 f2 f3 f4) := l9.pop1_of p10
  have l11 : Spec.Left (arg1.view.read (Elt F) f1) (arg2.view.read (Elt F) f2) (arg3.view.read (Elt F) f3) (arg4.view.read (Elt F) f4) ![6, 5] (sound_kernel.sl.k0_mxu208 c arg1 arg2 arg3 arg4 f1 f2 f3 f4) := l10.pop0_of p11
  have v0 : sound_kernel.sl.v14084_r0 c arg1 arg2 arg3 arg4 f1 f2 f3 f4 = Spec.chain (arg1.view.read (Elt F) f1) (arg2.view.read (Elt F) f2) (arg3.view.read (Elt F) f3) (arg4.view.read (Elt F) f4) 0 0 13 (by decide) := l0 0 0 (by decide)
  have v1 : sound_kernel.sl.v14085_r0 c arg1 arg2 arg3 arg4 f1 f2 f3 f4 = Spec.chain (arg1.view.read (Elt F) f1) (arg2.view.read (Elt F) f2) (arg3.view.read (Elt F) f3) (arg4.view.read (Elt F) f4) 1 0 13 (by decide) := l1 1 0 (by decide)
  have v2 : sound_kernel.sl.v14090_r0 c arg1 arg2 arg3 arg4 f1 f2 f3 f4 = Spec.chain (arg1.view.read (Elt F) f1) (arg2.view.read (Elt F) f2) (arg3.view.read (Elt F) f3) (arg4.view.read (Elt F) f4) 0 1 13 (by decide) := l2 0 1 (by decide)
  have v3 : sound_kernel.sl.v14091_r0 c arg1 arg2 arg3 arg4 f1 f2 f3 f4 = Spec.chain (arg1.view.read (Elt F) f1) (arg2.view.read (Elt F) f2) (arg3.view.read (Elt F) f3) (arg4.view.read (Elt F) f4) 1 1 13 (by decide) := l3 1 1 (by decide)
  have v4 : sound_kernel.sl.v14096_r0 c arg1 arg2 arg3 arg4 f1 f2 f3 f4 = Spec.chain (arg1.view.read (Elt F) f1) (arg2.view.read (Elt F) f2) (arg3.view.read (Elt F) f3) (arg4.view.read (Elt F) f4) 0 2 13 (by decide) := l4 0 2 (by decide)
  have v5 : sound_kernel.sl.v14097_r0 c arg1 arg2 arg3 arg4 f1 f2 f3 f4 = Spec.chain (arg1.view.read (Elt F) f1) (arg2.view.read (Elt F) f2) (arg3.view.read (Elt F) f3) (arg4.view.read (Elt F) f4) 1 2 13 (by decide) := l5 1 2 (by decide)
  have v6 : sound_kernel.sl.v14102_r0 c arg1 arg2 arg3 arg4 f1 f2 f3 f4 = Spec.chain (arg1.view.read (Elt F) f1) (arg2.view.read (Elt F) f2) (arg3.view.read (Elt F) f3) (arg4.view.read (Elt F) f4) 0 3 13 (by decide) := l6 0 3 (by decide)
  have v7 : sound_kernel.sl.v14103_r0 c arg1 arg2 arg3 arg4 f1 f2 f3 f4 = Spec.chain (arg1.view.read (Elt F) f1) (arg2.view.read (Elt F) f2) (arg3.view.read (Elt F) f3) (arg4.view.read (Elt F) f4) 1 3 13 (by decide) := l7 1 3 (by decide)
  have v8 : sound_kernel.sl.v14108_r0 c arg1 arg2 arg3 arg4 f1 f2 f3 f4 = Spec.chain (arg1.view.read (Elt F) f1) (arg2.view.read (Elt F) f2) (arg3.view.read (Elt F) f3) (arg4.view.read (Elt F) f4) 0 4 13 (by decide) := l8 0 4 (by decide)
  have v9 : sound_kernel.sl.v14109_r0 c arg1 arg2 arg3 arg4 f1 f2 f3 f4 = Spec.chain (arg1.view.read (Elt F) f1) (arg2.view.read (Elt F) f2) (arg3.view.read (Elt F) f3) (arg4.view.read (Elt F) f4) 1 4 13 (by decide) := l9 1 4 (by decide)
  have v10 : sound_kernel.sl.v14114_r0 c arg1 arg2 arg3 arg4 f1 f2 f3 f4 = Spec.chain (arg1.view.read (Elt F) f1) (arg2.view.read (Elt F) f2) (arg3.view.read (Elt F) f3) (arg4.view.read (Elt F) f4) 0 5 13 (by decide) := l10 0 5 (by decide)
  have v11 : sound_kernel.sl.v14115_r0 c arg1 arg2 arg3 arg4 f1 f2 f3 f4 = Spec.chain (arg1.view.read (Elt F) f1) (arg2.view.read (Elt F) f2) (arg3.view.read (Elt F) f3) (arg4.view.read (Elt F) f4) 1 5 13 (by decide) := l11 1 5 (by decide)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (Spec.cover _ _ _ _ _ _)).trans ?_
    exact Spec.canon_congr (Spec.piece5_eq v0 v1) (Spec.piece5_eq v2 v3)
      (Spec.piece5_eq v4 v5) (Spec.piece5_eq v6 v7)
      (Spec.piece5_eq v8 v9) (Spec.piece5_eq v10 v11)
  · iexists _; isplitr
    swap; · iexact H6
    ipureintro
    refine (View.read_writes_eq_canon _ _ _ (Spec.cover _ _ _ _ _ _)).trans ?_
    exact Spec.canon_congr v1 v3 v5 v7 v9
      v11

end Cert.KernelIdeal.Hand

end
-- ==== Proof.FrameIdeal.lean ====
/- The launch of the linear kernel (program `KernelIdeal`): its grid of 74 column blocks run, and the frame. -/
module

public import proofs.«01_k».proof.Proof.RunIdeal

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- After the body at point `t` each input's buffer holds its block and the results' buffers hold what the body stores. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => Spec.out5 (iblk m c 0 t) (iblk m c 1 t) (iblk m c 2 t) (iblk m c 3 t)
    | ⟨5, _⟩ => Spec.out6 (iblk m c 0 t) (iblk m c 1 t) (iblk m c 2 t) (iblk m c 3 t)
  Φ _ := Pipeline.ΦA spec0 c
  q _ := fullShare
  owed _ := 0

/-- The arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = Spec.out5 (iblk m c 0 t) (iblk m c 1 t) (iblk m c 2 t) (iblk m c 3 t) := by dsimp only [dats]
theorem after0_5 (c : Dev nD) (t : Fin cfg0.N) :
    (dats m 0 c).after 5 t = Spec.out6 (iblk m c 0 t) (iblk m c 1 t) (iblk m c 2 t) (iblk m c 3 t) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- The implicit arguments are found by unifying conclusions, which takes unfolding plain definitions in a metavariable's type.
set_option backward.isDefEq.respectTransparency.types false in
set_option maxRecDepth 8192 in
/-- The launch, and every semaphore counter at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every weakly fair execution of @main terminates with every array of the pipeline at what the proof data give. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Hand

end
-- ==== Proof.Elements.lean ====
/- One element of a decoded tile: the table entry its four-bit code names. -/
module

public import proofs.«01_k».proof.Proof.Spec
public import Idealize.ShloMosaic.Lib.Pointwise
public import Idealize.ShloMosaic.Lib.BitcastPair

@[expose] public section

noncomputable section

namespace Cert.Spec

open Idealize.ShloMosaic

/-! ## One word -/

/-- A table entry as the high half of a word. -/
def entryWord (e : Fin 16 → BitVec 16) (n : Fin 16) : BitVec 32 := IntOp.shli .vector ((e n).setWidth 32) 16#32

/-- A word decoded from the code byte `c` by the table `e`, as the kernel computes it. -/
def wordOf (e : Fin 16 → BitVec 16) (c : BitVec 8) : BitVec 32 :=
  IntOp.ori
    (IntOp.andi
      (IntOp.shrui .vector
        (IntOp.ori
          (IntOp.shrui .vector (entryWord e ⟨(IntOp.andi (c.setWidth 32) 7#32).toNat % 8, by omega⟩) 16#32)
          (entryWord e ⟨8 + (IntOp.andi (c.setWidth 32) 7#32).toNat % 8, by omega⟩))
        (IntOp.andi (IntOp.shli .vector (c.setWidth 32) 1#32) 16#32))
      65535#32)
    (IntOp.andi
      (IntOp.shli .vector
        (IntOp.ori
          (entryWord e ⟨(IntOp.andi (IntOp.shrsi .vector (c.setWidth 32) 4#32) 7#32).toNat % 8, by omega⟩)
          (IntOp.shrui .vector (entryWord e ⟨8 + (IntOp.andi (IntOp.shrsi .vector (c.setWidth 32) 4#32) 7#32).toNat % 8, by omega⟩) 16#32))
        (IntOp.andi (IntOp.shrsi .vector (c.setWidth 32) 3#32) 16#32))
      4294901760#32)

/-- The entry the low four bits of a code byte name, -/
def lowCode (c : BitVec 8) : Fin 16 := ⟨c.toNat % 16, Nat.mod_lt _ (by decide)⟩

/-- and the entry the high four bits name. -/
def highCode (c : BitVec 8) : Fin 16 := ⟨c.toNat / 16, by have := c.isLt; omega⟩

set_option maxRecDepth 10000 in
theorem low_split : ∀ c : BitVec 8,
    (IntOp.andi (c.setWidth 32) 7#32).toNat % 8 = c.toNat % 8
      ∧ IntOp.andi (IntOp.shli .vector (c.setWidth 32) 1#32) 16#32 = if c.toNat % 16 < 8 then 0#32 else 16#32 := by decide

set_option maxRecDepth 10000 in
theorem high_split : ∀ c : BitVec 8,
    (IntOp.andi (IntOp.shrsi .vector (c.setWidth 32) 4#32) 7#32).toNat % 8 = c.toNat / 16 % 8
      ∧ IntOp.andi (IntOp.shrsi .vector (c.setWidth 32) 3#32) 16#32 = if c.toNat / 16 < 8 then 0#32 else 16#32 := by decide

theorem mask_low : ∀ i : Fin 32, (65535#32).getLsbD i.val = decide (i.val < 16) := by decide
theorem mask_high : ∀ i : Fin 32, (4294901760#32).getLsbD i.val = !decide (i.val < 16) := by decide

/-- The two masks keep the low half of one word and the high half of another. -/
theorem masked_low (p q : BitVec 32) : (IntOp.ori (IntOp.andi p 65535#32) (IntOp.andi q 4294901760#32)).extractLsb' 0 16 = p.extractLsb' 0 16 := by
  apply BitVec.eq_of_getLsbD_eq
  intro i hi
  have h1 := mask_low ⟨i, by omega⟩
  have h2 := mask_high ⟨i, by omega⟩
  simp only [hi, decide_true, Bool.not_true] at h1 h2
  simp [IntOp.ori, IntOp.andi, BitVec.getLsbD_extractLsb', BitVec.getLsbD_or, BitVec.getLsbD_and, h1, h2]

theorem masked_high (p q : BitVec 32) : (IntOp.ori (IntOp.andi p 65535#32) (IntOp.andi q 4294901760#32)).extractLsb' 16 16 = q.extractLsb' 16 16 := by
  apply BitVec.eq_of_getLsbD_eq
  intro i hi
  have h1 := mask_low ⟨16 + i, by omega⟩
  have h2 := mask_high ⟨16 + i, by omega⟩
  have hn : ¬ (16 + i < 16) := by omega
  simp only [hn, decide_false, Bool.not_false] at h1 h2
  simp [IntOp.ori, IntOp.andi, BitVec.getLsbD_extractLsb', BitVec.getLsbD_or, BitVec.getLsbD_and, h1, h2]

/-- The entry a low nibble selects out of the packed pair `a`, `b`. -/
theorem pair_low (a b : BitVec 16) (P : Prop) [Decidable P] :
    (IntOp.shrui .vector (IntOp.ori (IntOp.shrui .vector (IntOp.shli .vector (a.setWidth 32) 16#32) 16#32) (IntOp.shli .vector (b.setWidth 32) 16#32))
      (if P then 0#32 else 16#32)).extractLsb' 0 16 = if P then a else b := by
  by_cases h : P
  · rw [if_pos h, if_pos h]
    apply BitVec.eq_of_getLsbD_eq
    intro i hi
    have h1 : i < 32 := by omega
    have h2 : 16 + i < 32 := by omega
    simp [IntOp.ori, IntOp.shrui, IntOp.shli, BitVec.getLsbD_extractLsb', hi, h1, h2]
  · rw [if_neg h, if_neg h]
    apply BitVec.eq_of_getLsbD_eq
    intro i hi
    have h1 : i < 32 := by omega
    have h2 : 16 + i < 32 := by omega
    have h3 : ¬ (16 + i < 16) := by omega
    simp [IntOp.ori, IntOp.shrui, IntOp.shli, BitVec.getLsbD_extractLsb', hi, h1, h2, h3]

/-- The entry a high nibble selects out of the pair packed the other way round. -/
theorem pair_high (a b : BitVec 16) (P : Prop) [Decidable P] :
    (IntOp.shli .vector (IntOp.ori (IntOp.shli .vector (a.setWidth 32) 16#32) (IntOp.shrui .vector (IntOp.shli .vector (b.setWidth 32) 16#32) 16#32))
      (if P then 0#32 else 16#32)).extractLsb' 16 16 = if P then a else b := by
  by_cases h : P
  · rw [if_pos h, if_pos h]
    apply BitVec.eq_of_getLsbD_eq
    intro i hi
    have h1 : i < 32 := by omega
    have h2 : 16 + i < 32 := by omega
    simp [IntOp.ori, IntOp.shrui, IntOp.shli, BitVec.getLsbD_extractLsb', hi, h1, h2]
  · rw [if_neg h, if_neg h]
    apply BitVec.eq_of_getLsbD_eq
    intro i hi
    have h1 : i < 32 := by omega
    have h2 : 16 + i < 32 := by omega
    have h3 : ¬ (16 + i < 16) := by omega
    simp [IntOp.ori, IntOp.shrui, IntOp.shli, BitVec.getLsbD_extractLsb', hi, h1, h2, h3]

/-- The low half of a decoded word is the low nibble's entry. -/
theorem wordOf_low (e : Fin 16 → BitVec 16) (c : BitVec 8) : (wordOf e c).extractLsb' 0 16 = e (lowCode c) := by
  unfold wordOf
  rw [masked_low, (low_split c).2]
  unfold entryWord
  rw [pair_low]
  split
  · exact congrArg e (Fin.ext (by show _ = c.toNat % 16; simp only [(low_split c).1]; omega))
  · exact congrArg e (Fin.ext (by show _ = c.toNat % 16; simp only [(low_split c).1]; omega))

/-- The high half is the high nibble's entry. -/
theorem wordOf_high (e : Fin 16 → BitVec 16) (c : BitVec 8) : (wordOf e c).extractLsb' 16 16 = e (highCode c) := by
  have := c.isLt
  unfold wordOf
  rw [masked_high, (high_split c).2]
  unfold entryWord
  rw [pair_high]
  split
  · exact congrArg e (Fin.ext (by show _ = c.toNat / 16; simp only [(high_split c).1]; omega))
  · exact congrArg e (Fin.ext (by show _ = c.toNat / 16; simp only [(high_split c).1]; omega))

end Cert.Spec

end
-- ==== Proof.Tiles.lean ====
/- The tiles of one step, element by element. -/
module

public import proofs.«01_k».proof.Proof.Elements

@[expose] public section

noncomputable section

namespace Cert.Spec

open Idealize.ShloMosaic

variable {F : FTy → Type} [FloatOps F]

/-- A table's entries in column `j`. -/
def column (t : Vec F T1x16x128 .i16) (j : Fin 128) : Fin 16 → BitVec 16 := fun n => t (ix3 0 n j)

theorem entries_apply (t : Vec F T1x16x128 .i16) (n : Fin 16) (j : Fin 128) : entries t (ix2 n j) = entryWord (column t j) n := by
  unfold entries entryWord column
  simp only [pointwise]

theorem front_apply (t : Vec F T1x16x128 .i16) (n : Fin 8) (j : Fin 128) :
    front t (ix2 n j) = entryWord (column t j) ⟨n.val, by omega⟩ := by
  rw [← entries_apply]
  refine congrArg (entries t) ?_
  funext a; match a with
  | 0 => exact Fin.ext (Nat.zero_add _)
  | 1 => exact Fin.ext (Nat.zero_add _)

theorem back_apply (t : Vec F T1x16x128 .i16) (n : Fin 8) (j : Fin 128) :
    back t (ix2 n j) = entryWord (column t j) ⟨8 + n.val, by omega⟩ := by
  rw [← entries_apply]
  refine congrArg (entries t) ?_
  funext a; match a with
  | 0 => rfl
  | 1 => exact Fin.ext (Nat.zero_add _)

theorem gather_apply (x : IVec T8x128 32) (idx : IVec T8x128 32) (r : Fin 8) (j : Fin 128) :
    dynamicGather 0 x idx (ix2 r j) = x (ix2 ⟨(idx (ix2 r j)).toNat % 8, Nat.mod_lt _ (by decide)⟩ j) := by
  unfold dynamicGather
  refine congrArg x ?_
  funext a; match a with
  | 0 => rfl
  | 1 => rfl

theorem codeRows_apply (c : Vec F T128x128 .i8) (o : Nat) (h : T128x128.Slices ![o, 0] T8x128) (r : Fin 8) (j : Fin 128) (R : Fin 128)
    (hR : R.val = o + r.val) : codeRows (F := F) c o h (ix2 r j) = (c (ix2 R j) : BitVec 8).setWidth 32 := by
  unfold codeRows extui extractStridedSlice
  refine congrArg (fun i => (c i : BitVec 8).setWidth 32) ?_
  funext a; match a with
  | 0 => exact Fin.ext hR.symm
  | 1 => exact Fin.ext (Nat.zero_add _)

theorem decodeRows_apply (t : Vec F T1x16x128 .i16) (w : IVec T8x128 32) (r : Fin 8) (j : Fin 128) (c : BitVec 8)
    (hw : w (ix2 r j) = c.setWidth 32) : decodeRows (loTab t) (hiTab t) w (ix2 r j) = wordOf (column t j) c := by
  unfold decodeRows wordOf
  simp only [shapeCast_comp, shapeCast_id, ori_apply, andi_apply, shrui_apply, shli_apply, shrsi_apply, gather_apply, loTab, hiTab,
    front_apply, back_apply, broadcast, hw]

/-- Piece `n` of the sixteen of a half tile. -/
def pieceRows (c : Vec F T128x128 .i8) (t0 t1 : Vec F T1x16x128 .i16) (n : Fin 16) : IVec T8x128 32 :=
  decodeRows (loTab (if n.val < 8 then t0 else t1)) (hiTab (if n.val < 8 then t0 else t1))
    (codeRows c (8 * n.val) (by have := n.isLt; revert n; decide))

theorem words_eq (c : Vec F T128x128 .i8) (t0 t1 : Vec F T1x16x128 .i16) :
    words c t0 t1 = concatenate T128x128 0 (List.ofFn fun n : Fin 16 => (⟨T8x128, pieceRows c t0 t1 n⟩ : (s : Shape) × (s.Idx → BitVec 32)))
      cat16 := rfl

theorem words_apply (c : Vec F T128x128 .i8) (t0 t1 : Vec F T1x16x128 .i16) (r j : Fin 128) :
    words c t0 t1 (ix2 r j) = wordOf (column (if r.val < 64 then t0 else t1) j) (c (ix2 r j)) := by
  have hr := r.isLt
  rw [words_eq, concatenate_ofFn_apply (s₁ := T8x128) (t := T128x128) 0 (pieceRows c t0 t1) cat16 rfl 8 rfl (ix2 r j)
    ⟨r.val / 8, by omega⟩ rfl (ix2 ⟨r.val % 8, by omega⟩ j) rfl (fun b hb => by
      match b with
      | 0 => exact absurd rfl hb
      | 1 => rfl)]
  unfold pieceRows
  have e : (if r.val / 8 < 8 then t0 else t1) = if r.val < 64 then t0 else t1 := by
    by_cases h : r.val < 64
    · rw [if_pos h, if_pos (by omega)]
    · rw [if_neg h, if_neg (by omega)]
  rw [e]
  refine decodeRows_apply _ _ _ _ _ (codeRows_apply _ _ _ _ _ _ ?_)
  show r.val = 8 * (r.val / 8) + r.val % 8
  omega

theorem asRows_apply (w : IVec T128x128 32) (l : Fin 256) (j : Fin 128) :
    asRows (F := F) w (ix2 l j)
      = FloatOps.ofBits .bf16 ((w (ix2 ⟨l.val / 2, by omega⟩ j)).extractLsb' (16 * (l.val % 2)) 16) := by
  unfold asRows bitcastToFloat
  rw [bitcast_32_16]
  refine congrArg (fun i => FloatOps.ofBits .bf16 ((w i).extractLsb' (16 * (l.val % 2)) 16)) ?_
  funext a; match a with
  | 0 => exact Fin.ext rfl
  | 1 => exact Fin.ext rfl

theorem sideBySide_apply (a b : FVec F T256x128 .bf16) (l j : Fin 256) :
    sideBySide a b (ix2 l j) = (if j.val < 128 then a else b) (ix2 l ⟨j.val % 128, Nat.mod_lt _ (by decide)⟩) := by
  have hj := j.isLt
  unfold sideBySide
  by_cases h : j.val < 128
  · rw [if_pos h]
    refine concatenate_pair_apply_left (s₁ := T256x128) (s₂ := T256x128) (t := T256x256) 1 a b cat2 (ix2 l j) rfl (ix2 l ⟨j.val % 128, Nat.mod_lt _ (by decide)⟩) fun q => ?_
    match q with
    | 0 => rfl
    | 1 => exact Nat.mod_eq_of_lt h
  · rw [if_neg h]
    refine concatenate_pair_apply_right (s₁ := T256x128) (s₂ := T256x128) (t := T256x256) 1 a b cat2 (ix2 l j) rfl rfl (ix2 l ⟨j.val % 128, Nat.mod_lt _ (by decide)⟩) (fun q hq => ?_) ?_
    · match q with
      | 0 => rfl
      | 1 => exact absurd rfl hq
    · show j.val % 128 + 128 = j.val
      omega

/-! ## The tiles of step `k` -/

variable (x1 : Vec F T768x3584 .bf16) (x2 : Vec F T1792x256 .i8) (x3 : Vec F T28x16x256 .i16) (x4 : Vec F T2x1792x128 .i32)

/-- The code a row reads: the low nibble on an even row, the high one on an odd row. -/
def codeOf (l : Nat) (c : BitVec 8) : Fin 16 := if l % 2 = 0 then lowCode c else highCode c

theorem wordOf_half (e : Fin 16 → BitVec 16) (c : BitVec 8) (l : Nat) : (wordOf e c).extractLsb' (16 * (l % 2)) 16 = e (codeOf l c) := by
  unfold codeOf
  have h : l % 2 = 0 ∨ l % 2 = 1 := by omega
  rcases h with h | h
  · rw [h, if_pos rfl]; exact wordOf_low e c
  · rw [h, if_neg (by decide)]; exact wordOf_high e c

theorem lhsAt_apply (k : Fin 14) (p : Fin 6) (r : Fin 128) (l : Fin 256) :
    lhsAt x1 k p (ix2 r l) = x1 (ix2 ⟨128 * p.val + r.val, by omega⟩ ⟨256 * k.val + l.val, by omega⟩) := by
  unfold lhsAt View.ld
  refine (Pointwise.shapeCast_apply _ _ _).trans (congrArg x1 ?_)
  rw [show Shape.reshapeEquiv _ (ix2 r l : T128x256.Idx) = (ix2 r l : T128x256.Idx) from Shape.reshapeEquiv_self (s := T128x256) _ _]
  funext a; match a with
  | 0 => exact Fin.ext (by show 128 * p.val + 1 * r.val = 128 * p.val + r.val; omega)
  | 1 => exact Fin.ext (by show 256 * k.val + 1 * l.val = 256 * k.val + l.val; omega)

theorem codesAt_apply (k : Fin 14) (h : Fin 2) (r j : Fin 128) :
    codesAt x2 k h (ix2 r j) = x2 (ix2 ⟨128 * k.val + r.val, by omega⟩ ⟨128 * h.val + j.val, by omega⟩) := by
  unfold codesAt View.ld
  refine congrArg x2 ?_
  funext a; match a with
  | 0 => exact Fin.ext (by show 128 * k.val + 1 * r.val = 128 * k.val + r.val; omega)
  | 1 => exact Fin.ext (by show 128 * h.val + 1 * j.val = 128 * h.val + j.val; omega)

theorem tableAt_apply (k : Fin 14) (g h : Fin 2) (n : Fin 16) (j : Fin 128) :
    tableAt x3 k g h (ix3 0 n j) = x3 (ix3 ⟨2 * k.val + g.val, by omega⟩ n ⟨128 * h.val + j.val, by omega⟩) := by
  unfold tableAt View.ld
  refine congrArg x3 ?_
  funext a; match a with
  | 0 => exact Fin.ext (by show 2 * k.val + g.val + 1 * 0 = 2 * k.val + g.val; omega)
  | 1 => exact Fin.ext (by show 0 + 1 * n.val = n.val; omega)
  | 2 => exact Fin.ext (by show 128 * h.val + 1 * j.val = 128 * h.val + j.val; omega)

theorem sparseAt_apply (k : Fin 14) (h : Fin 2) (r j : Fin 128) :
    (shapeCast T128x128 (sparseAt x4 k h : IVec T1x128x128 32) : IVec T128x128 32) (ix2 r j)
      = x4 (ix3 h ⟨128 * k.val + r.val, by omega⟩ j) := by
  have e : (shapeCast T128x128 (sparseAt x4 k h : IVec T1x128x128 32) : IVec T128x128 32) (ix2 r j)
      = (sparseAt x4 k h : IVec T1x128x128 32) (ix3 0 r j) := by
    generalize (sparseAt x4 k h : IVec T1x128x128 32) = v
    simp only [pointwise]
  rw [e]; unfold sparseAt View.ld
  refine congrArg x4 ?_
  funext a; match a with
  | 0 => exact Fin.ext (by show h.val + 1 * 0 = h.val; omega)
  | 1 => exact Fin.ext (by show 128 * k.val + 1 * r.val = 128 * k.val + r.val; omega)
  | 2 => exact Fin.ext (by show 0 + 1 * j.val = j.val; omega)

/-- The table entry bits a row `l` of the tile of step `k` reads in column `j`. -/
theorem halfTile_apply (k : Fin 14) (h : Fin 2) (l : Fin 256) (j : Fin 128) (J : Fin 256) (hJ : J.val = 128 * h.val + j.val) :
    asRows (words (F := F) (codesAt x2 k h) (tableAt x3 k 0 h) (tableAt x3 k 1 h)) (ix2 l j)
      = FloatOps.ofBits (F := F) .bf16 (x3 (ix3 ⟨2 * k.val + l.val / 128, by omega⟩
          (codeOf l.val (x2 (ix2 ⟨128 * k.val + l.val / 2, by omega⟩ J))) J)) := by
  have hl := l.isLt
  have eJ : (⟨128 * h.val + j.val, hJ ▸ J.isLt⟩ : Fin 256) = J := Fin.ext hJ.symm
  rw [asRows_apply, words_apply, wordOf_half, codesAt_apply, eJ]
  unfold column
  refine congrArg (FloatOps.ofBits .bf16) ?_
  by_cases hc : l.val / 2 < 64
  · rw [if_pos hc, tableAt_apply, eJ]
    exact congrArg x3 (congrArg (fun g => ix3 g _ _) (Fin.ext (by show 2 * k.val + 0 = 2 * k.val + l.val / 128; omega)))
  · rw [if_neg hc, tableAt_apply, eJ]
    exact congrArg x3 (congrArg (fun g => ix3 g _ _) (Fin.ext (by show 2 * k.val + 1 = 2 * k.val + l.val / 128; omega)))

/-- An element of the decoded tile. -/
theorem denseTile_apply (k : Fin 14) (l J : Fin 256) :
    denseTile x2 x3 k (ix2 l J)
      = FloatOps.ofBits (F := F) .bf16 (x3 (ix3 ⟨2 * k.val + l.val / 128, by omega⟩
          (codeOf l.val (x2 (ix2 ⟨128 * k.val + l.val / 2, by omega⟩ J))) J)) := by
  have hJ := J.isLt
  unfold denseTile
  rw [sideBySide_apply]
  by_cases hc : J.val < 128
  · rw [if_pos hc]; exact halfTile_apply x2 x3 k 0 l _ J (by show J.val = 128 * 0 + J.val % 128; omega)
  · rw [if_neg hc]; exact halfTile_apply x2 x3 k 1 l _ J (by show J.val = 128 * 1 + J.val % 128; omega)

/-- An element of the sparse tile. -/
theorem sparseTile_apply (k : Fin 14) (l J : Fin 256) :
    sparseTile x4 k (ix2 l J)
      = FloatOps.ofBits (F := F) .bf16 ((x4 (ix3 ⟨J.val / 128, by omega⟩ ⟨128 * k.val + l.val / 2, by omega⟩
          ⟨J.val % 128, Nat.mod_lt _ (by decide)⟩) : BitVec 32).extractLsb' (16 * (l.val % 2)) 16) := by
  have hJ := J.isLt
  unfold sparseTile
  rw [sideBySide_apply]
  by_cases hc : J.val < 128
  · rw [if_pos hc, asRows_apply, sparseAt_apply]
    exact congrArg (fun h => FloatOps.ofBits .bf16 ((x4 (ix3 h _ _) : BitVec 32).extractLsb' _ 16)) (Fin.ext (by show 0 = J.val / 128; omega))
  · rw [if_neg hc, asRows_apply, sparseAt_apply]
    exact congrArg (fun h => FloatOps.ofBits .bf16 ((x4 (ix3 h _ _) : BitVec 32).extractLsb' _ 16)) (Fin.ext (by show 1 = J.val / 128; omega))

end Cert.Spec

end
-- ==== Proof.Sums.lean ====
/- The results' blocks over the reals: each element is a sum over the 3584 input features. -/
module

public import proofs.«01_k».proof.Proof.Tiles
public import proofs.«01_k».proof.Proof.Units
public import Idealize.ShloMosaic.Lib.MatmulPlain
public import Mathlib.Algebra.BigOperators.Intervals

@[expose] public section

noncomputable section

namespace Cert.Spec

open Idealize.ShloMosaic
open scoped BigOperators

/-! ## One column's weights, and a row against them -/

/-- The dense weight's bits at feature `n`: the group's table at the code of row pair `n / 2`. -/
def denseBits (codes : Fin 1792 → BitVec 8) (tab : Fin 28 → Fin 16 → BitVec 16) (n : Nat) : BitVec 16 :=
  tab ⟨n / 128 % 28, Nat.mod_lt _ (by decide)⟩ (codeOf n (codes ⟨n / 2 % 1792, Nat.mod_lt _ (by decide)⟩))

/-- The sparse weight's bits at feature `n`: a half of the word of row pair `n / 2`. -/
def sparseBits (words : Fin 1792 → BitVec 32) (n : Nat) : BitVec 16 :=
  (words ⟨n / 2 % 1792, Nat.mod_lt _ (by decide)⟩).extractLsb' (16 * (n % 2)) 16

/-- A term of a row against a column of weights. -/
def term (x : Fin 3584 → EReal) (bits : Nat → BitVec 16) (n : Nat) : EReal :=
  x ⟨n % 3584, Nat.mod_lt _ (by decide)⟩ * Ideal.ofBits .bf16 (bits n)

/-- A row against a column of weights. -/
def rowSum (x : Fin 3584 → EReal) (bits : Nat → BitVec 16) : EReal := ∑ n ∈ Finset.range 3584, term x bits n

/-- The even features, then the odd ones. -/
theorem sum_even_odd (f : Nat → EReal) (n : Nat) :
    ∑ i ∈ Finset.range (2 * n), f i = ∑ i ∈ Finset.range n, f (2 * i) + ∑ i ∈ Finset.range n, f (2 * i + 1) := by
  induction n with
  | zero => simp
  | succ n ih =>
    rw [show 2 * (n + 1) = 2 * n + 1 + 1 from rfl, Finset.sum_range_succ, Finset.sum_range_succ, ih, Finset.sum_range_succ,
      Finset.sum_range_succ]
    exact (add_assoc _ _ _).trans (add_add_add_comm _ _ _ _)

theorem rowSum_even_odd (x : Fin 3584 → EReal) (bits : Nat → BitVec 16) :
    rowSum x bits = ∑ r : Fin 1792, term x bits (2 * r.val) + ∑ r : Fin 1792, term x bits (2 * r.val + 1) := by
  unfold rowSum
  rw [show 3584 = 2 * 1792 from rfl, sum_even_odd, Finset.sum_range, Finset.sum_range]

/-! ## One pass, and the chain of fourteen -/

variable (x1 : Vec Ideal T768x3584 .bf16) (x2 : Vec Ideal T1792x256 .i8) (x3 : Vec Ideal T28x16x256 .i16) (x4 : Vec Ideal T2x1792x128 .i32)

/-- The matrix unit's pass at one element. -/
theorem mxuPass_apply (l : FVec Ideal T128x256 .bf16) (w : FVec Ideal T256x256 .bf16) (r : Fin 128) (j : Fin 256) :
    FloatOps.mxuPass (DotDims.plain 128 256 256) l w (ix2 r j) = ∑ k : Fin 256, l (ix2 r k) * w (ix2 k j) := by
  show ∑ q : (DotDims.plain 128 256 256).contr.Idx, l ((DotDims.plain 128 256 256).lhsIdx (ix2 r j) q)
    * w ((DotDims.plain 128 256 256).rhsIdx (ix2 r j) q) = _
  rw [← Equiv.sum_comp (DotDims.plainContr 128 256 256).symm]
  refine Finset.sum_congr rfl fun k _ => ?_
  have hk := ValueIdx.contrEquiv1_symm_val _ 256 (DotDims.plain_contr_rank 128 256 256) (DotDims.plain_contr_size 128 256 256) k
  have el : (DotDims.plain 128 256 256).lhsIdx (ix2 r j) ((DotDims.plainContr 128 256 256).symm k) = ix2 r k := by
    funext a; apply Fin.ext
    match a with
    | ⟨0, _⟩ => rfl
    | ⟨1, _⟩ => exact hk
  have er : (DotDims.plain 128 256 256).rhsIdx (ix2 r j) ((DotDims.plainContr 128 256 256).symm k) = ix2 k j := by
    funext a; apply Fin.ext
    match a with
    | ⟨0, _⟩ => exact hk
    | ⟨1, _⟩ => rfl
  rw [el, er]

/-- The bits of column `J` of unit `q`'s tiles at feature `n`. -/
def unitBits (q : Fin 2) (J : Fin 256) : Nat → BitVec 16 :=
  if q = 0 then denseBits (fun r => x2 (ix2 r J)) (fun g e => x3 (ix3 g e J))
  else sparseBits (fun r => x4 (ix3 ⟨J.val / 128, by omega⟩ r ⟨J.val % 128, Nat.mod_lt _ (by decide)⟩))

theorem tile_apply (q : Fin 2) (k : Fin 14) (l J : Fin 256) :
    (if q = 0 then denseTile x2 x3 k else sparseTile x4 k) (ix2 l J) = Ideal.ofBits .bf16 (unitBits x2 x3 x4 q J (256 * k.val + l.val)) := by
  have hk := k.isLt
  have hl := l.isLt
  unfold unitBits
  have e1 : (⟨(256 * k.val + l.val) / 2 % 1792, Nat.mod_lt _ (by decide)⟩ : Fin 1792) = ⟨128 * k.val + l.val / 2, by omega⟩ :=
    Fin.ext (by show (256 * k.val + l.val) / 2 % 1792 = 128 * k.val + l.val / 2; omega)
  have e2 : (⟨(256 * k.val + l.val) / 128 % 28, Nat.mod_lt _ (by decide)⟩ : Fin 28) = ⟨2 * k.val + l.val / 128, by omega⟩ :=
    Fin.ext (by show (256 * k.val + l.val) / 128 % 28 = 2 * k.val + l.val / 128; omega)
  have e3 : (256 * k.val + l.val) % 2 = l.val % 2 := by omega
  by_cases hq : q = 0
  · rw [if_pos hq, if_pos hq, denseTile_apply]
    unfold denseBits codeOf
    rw [e1, e2, e3]
    rfl
  · rw [if_neg hq, if_neg hq, sparseTile_apply]
    unfold sparseBits
    rw [e1, e3]
    rfl

theorem passAt_apply (q : Fin 2) (p : Fin 6) (k : Fin 14) (r : Fin 128) (J : Fin 256) :
    passAt x1 x2 x3 x4 q p k (ix2 r J) = ∑ l ∈ Finset.range 256,
      term (fun n => x1 (ix2 ⟨128 * p.val + r.val, by omega⟩ n)) (unitBits x2 x3 x4 q J) (256 * k.val + l) := by
  unfold passAt
  rw [mxuPass_apply, Finset.sum_range]
  refine Finset.sum_congr rfl fun l _ => ?_
  rw [tile_apply, lhsAt_apply]
  unfold term
  exact congrArg (fun n => x1 (ix2 _ n) * _) (Fin.ext (by
    have hk := k.isLt
    have hl := l.isLt
    show 256 * k.val + l.val = (256 * k.val + l.val) % 3584; omega))

theorem chain_apply (q : Fin 2) (p : Fin 6) (r : Fin 128) (J : Fin 256) : ∀ (n : Nat) (hn : n < 14),
    chain x1 x2 x3 x4 q p n hn (ix2 r J) = ∑ m ∈ Finset.range (256 * (n + 1)),
      term (fun n => x1 (ix2 ⟨128 * p.val + r.val, by omega⟩ n)) (unitBits x2 x3 x4 q J) m
  | 0, h => by
    refine (passAt_apply x1 x2 x3 x4 q p ⟨0, h⟩ r J).trans ?_
    exact Finset.sum_congr rfl fun l _ => congrArg _ (by show 256 * 0 + l = l; omega)
  | n + 1, h => by
    rw [show 256 * (n + 1 + 1) = 256 * (n + 1) + 256 from rfl, Finset.sum_range_add, ← chain_apply q p r J n (Nat.lt_of_succ_lt h),
      ← passAt_apply x1 x2 x3 x4 q p ⟨n + 1, h⟩ r J]
    rfl

/-! ## The results' blocks -/

/-- Row `i` of a block is row `i % 128` of piece `i / 128`. -/
theorem canon_pieces {e : EltTy} (g : Fin 6 → T128x256.Idx → Elt Ideal e) (i : Fin 768) (J : Fin 256) :
    View.canon (Val := Elt Ideal) (s := T768x256) (e := e) [⟨rowsOf 5, g 5⟩, ⟨rowsOf 4, g 4⟩, ⟨rowsOf 3, g 3⟩, ⟨rowsOf 2, g 2⟩,
      ⟨rowsOf 1, g 1⟩, ⟨rowsOf 0, g 0⟩] (ix2 i J) = g ⟨i.val / 128, by omega⟩ (ix2 ⟨i.val % 128, Nat.mod_lt _ (by decide)⟩ J) := by
  refine View.canon_apply_of_pieces (Val := Elt Ideal) (S := T768x256) (e := e) (fun y =>
    g ⟨(y 0).val / 128, Nat.div_lt_of_lt_mul (y 0).isLt⟩ (ix2 ⟨(y 0).val % 128, Nat.mod_lt _ (by decide)⟩ (y 1))) _ ?_ (ix2 i J) ?_
  · have key : ∀ (p : Fin 6) (x : T128x256.Idx), g p x = g ⟨((rowsOf p).emb x 0).val / 128, Nat.div_lt_of_lt_mul ((rowsOf p).emb x 0).isLt⟩
        (ix2 ⟨((rowsOf p).emb x 0).val % 128, Nat.mod_lt _ (by decide)⟩ ((rowsOf p).emb x 1)) := by
      intro p x
      have hx : (x 0).val < 128 := (x 0).isLt
      have e0 : ((rowsOf p).emb x 0).val = 128 * p.val + (x 0).val := by
        show 128 * p.val + 1 * (x 0).val = 128 * p.val + (x 0).val; omega
      have ep : (⟨((rowsOf p).emb x 0).val / 128, Nat.div_lt_of_lt_mul ((rowsOf p).emb x 0).isLt⟩ : Fin 6) = p :=
        Fin.ext (by show ((rowsOf p).emb x 0).val / 128 = p.val; omega)
      rw [ep]
      refine congrArg (g p) ?_
      funext a; match a with
      | 0 => exact Fin.ext (by show (x 0).val = ((rowsOf p).emb x 0).val % 128; omega)
      | 1 => exact Fin.ext (by show (x 1).val = 0 + 1 * (x 1).val; omega)
    intro q hq
    simp only [List.mem_cons, List.not_mem_nil, or_false] at hq
    rcases hq with rfl | rfl | rfl | rfl | rfl | rfl
    · exact key 5
    · exact key 4
    · exact key 3
    · exact key 2
    · exact key 1
    · exact key 0
  · exact cover (F := Ideal) (e := e) (g 0) (g 1) (g 2) (g 3) (g 4) (g 5) (ix2 i J)

theorem out6_apply (i : Fin 768) (J : Fin 256) : out6 x1 x2 x3 x4 (ix2 i J)
    = rowSum (fun n => x1 (ix2 i n)) (sparseBits (fun r => x4 (ix3 ⟨J.val / 128, by omega⟩ r ⟨J.val % 128, Nat.mod_lt _ (by decide)⟩))) := by
  refine (canon_pieces (e := .f32) (piece6 x1 x2 x3 x4) i J).trans ?_
  unfold piece6
  rw [chain_apply]
  have e : (⟨128 * (i.val / 128) + i.val % 128, by omega⟩ : Fin 768) = i := Fin.ext (by show 128 * (i.val / 128) + i.val % 128 = i.val; omega)
  simp only [e]
  rfl

theorem out5_apply (i : Fin 768) (J : Fin 256) : out5 x1 x2 x3 x4 (ix2 i J)
    = rowSum (fun n => x1 (ix2 i n)) (denseBits (fun r => x2 (ix2 r J)) (fun g e => x3 (ix3 g e J)))
      + rowSum (fun n => x1 (ix2 i n)) (sparseBits (fun r => x4 (ix3 ⟨J.val / 128, by omega⟩ r ⟨J.val % 128, Nat.mod_lt _ (by decide)⟩))) := by
  refine (canon_pieces (e := .bf16) (piece5 x1 x2 x3 x4) i J).trans ?_
  show chain x1 x2 x3 x4 0 _ 13 _ (ix2 _ J) + chain x1 x2 x3 x4 1 _ 13 _ (ix2 _ J) = _
  rw [chain_apply, chain_apply]
  have e : (⟨128 * (i.val / 128) + i.val % 128, by omega⟩ : Fin 768) = i := Fin.ext (by show 128 * (i.val / 128) + i.val % 128 = i.val; omega)
  simp only [e]
  rfl

end Cert.Spec

end
-- ==== Proof.Target.lean ====
/- What both programs leave in the two results, over the reals, as functions of the arguments. -/
module

public import proofs.«01_k».proof.Proof.Sums

@[expose] public section

noncomputable section

namespace Cert.Spec

open Idealize.ShloMosaic

abbrev T3x256x3584 : Shape := ⟨3, ![3, 256, 3584]⟩
abbrev T1792x18944 : Shape := ⟨2, ![1792, 18944]⟩
abbrev T28x18944x16 : Shape := ⟨3, ![28, 18944, 16]⟩
abbrev T148x1792x128 : Shape := ⟨3, ![148, 1792, 128]⟩
abbrev T768x18944 : Shape := ⟨2, ![768, 18944]⟩

theorem rows_flat : T3x256x3584.ShapeCasts T768x3584 := by decide

/-- Token `i`'s features. -/
def tokens (x : Vec Ideal T3x256x3584 .bf16) (i : Fin 768) (n : Fin 3584) : EReal :=
  (shapeCast T768x3584 x rows_flat : FVec Ideal T768x3584 .bf16) (ix2 i n)

/-- The decoded weights' bits in output column `j`. -/
def denseColumn (codes : Vec Ideal T1792x18944 .i8) (lut : Vec Ideal T28x18944x16 .i16) (j : Fin 18944) : Nat → BitVec 16 :=
  denseBits (fun r => codes (ix2 r j)) (fun g e => lut (ix3 g j e))

/-- The sparse weights' bits in output column `j`. -/
def sparseColumn (s : Vec Ideal T148x1792x128 .i32) (j : Fin 18944) : Nat → BitVec 16 :=
  sparseBits (fun r => s (ix3 ⟨j.val / 128, by omega⟩ r ⟨j.val % 128, Nat.mod_lt _ (by decide)⟩))

/-- The sparse product. -/
def sparseResult (x : Vec Ideal T3x256x3584 .bf16) (s : Vec Ideal T148x1792x128 .i32) : T768x18944.Idx → EReal :=
  fun i => rowSum (tokens x (i 0)) (sparseColumn s (i 1))

/-- The dense product plus the sparse one. -/
def result (x : Vec Ideal T3x256x3584 .bf16) (codes : Vec Ideal T1792x18944 .i8) (lut : Vec Ideal T28x18944x16 .i16)
    (s : Vec Ideal T148x1792x128 .i32) : T768x18944.Idx → EReal :=
  fun i => rowSum (tokens x (i 0)) (denseColumn codes lut (i 1)) + sparseResult x s i

end Cert.Spec

end
-- ==== Proof.Arrays.lean ====
/- The arrays the linear kernel leaves, over the reals: block `t` of a result is columns `256 t … 256 t + 255`. -/
module

public import proofs.«01_k».proof.Proof.FrameIdeal
public import proofs.«01_k».proof.Proof.Target
public import Idealize.ShloMosaic.Lib.Pipeline.ValueKit

@[expose] public section

noncomputable section

namespace Cert.KernelIdeal.Hand

open Cert.KernelIdeal Cert.KernelIdeal.Gen Cert.Spec
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ) (ρ : Dev nD → PrngReg)

/-- The region finds the activations flattened, -/
theorem V_v0 (c : Dev nD) : V m c main_v0 = shapeCast S768x3584 (m ((c.tc : Thread nD τ).loc main_arg0)) shapeCasts_S3x256x3584_S768x3584 := by
  show StableHlo.after hostOps0 (fun b => m (c, b)) (Proc.devRef .tc main_v0) = _
  simp only [hostOps0]
  after_results_simp
  rfl

/-- and each group's table with its entries outermost. -/
theorem V_v1 (c : Dev nD) : V m c main_v1
    = transpose S28x16x18944 [0, 2, 1] (m ((c.tc : Thread nD τ).loc main_arg2)) transposes_S28x18944x16_S28x16x18944_0_2_1 := by
  show StableHlo.after hostOps0 (fun b => m (c, b)) (Proc.devRef .tc main_v1) = _
  simp only [hostOps0]
  after_results_simp

theorem index0 : ∀ t : Fin cfg0.N, win0_0.index t = ![0, 0] := (by decide +kernel : ∀ t : Fin grid0.N, _)
theorem index1 : ∀ t : Fin cfg0.N, win0_1.index t = ![0, t.val] := (by decide +kernel : ∀ t : Fin grid0.N, _)
theorem index2 : ∀ t : Fin cfg0.N, win0_2.index t = ![0, 0, t.val] := (by decide +kernel : ∀ t : Fin grid0.N, _)
theorem index3 : ∀ t : Fin cfg0.N, win0_3.index t = ![t.val, 0, 0] := (by decide +kernel : ∀ t : Fin grid0.N, _)
theorem index4 : ∀ t : Fin cfg0.N, win0_4.index t = ![0, t.val] := (by decide +kernel : ∀ t : Fin grid0.N, _)
theorem index5 : ∀ t : Fin cfg0.N, win0_5.index t = ![0, t.val] := (by decide +kernel : ∀ t : Fin grid0.N, _)

/-- Column `J` of block `t`. -/
def col (t : Fin cfg0.N) (J : Fin 256) : Fin 18944 :=
  ⟨256 * t.val + J.val, by have h : t.val < 74 := t.isLt; omega⟩

/-- The activations' block is the whole array; -/
theorem iblk0_apply (c : Dev nD) (t : Fin cfg0.N) (i : Fin 768) (n : Fin 3584) :
    iblk m c 0 t (ix2 i n) = tokens (m ((c.tc : Thread nD τ).loc main_arg0)) i n := by
  blk_simp [iblk]
  unfold tokens
  refine (congrFun (V_v0 m c) _).trans (congrArg _ ?_)
  funext a; match a with
  | 0 => exact Fin.ext (by blk_simp [index0])
  | 1 => exact Fin.ext (by blk_simp [index0])

/-- the codes' block a run of columns, -/
theorem iblk1_apply (c : Dev nD) (t : Fin cfg0.N) (r : Fin 1792) (J : Fin 256) :
    iblk m c 1 t (ix2 r J) = m ((c.tc : Thread nD τ).loc main_arg1) (ix2 r (col t J)) := by
  blk_simp [iblk]
  refine (congrFun (V_main_arg1 m c) _).trans (congrArg _ ?_)
  funext a; match a with
  | 0 => exact Fin.ext (by blk_simp [index1])
  | 1 => exact Fin.ext (by blk_simp [index1]; show t.val * 256 + J.val = 256 * t.val + J.val; omega)

/-- so the tables' block, -/
theorem iblk2_apply (c : Dev nD) (t : Fin cfg0.N) (g : Fin 28) (e : Fin 16) (J : Fin 256) :
    iblk m c 2 t (ix3 g e J) = m ((c.tc : Thread nD τ).loc main_arg2) (ix3 g (col t J) e) := by
  blk_simp [iblk]
  refine (congrFun (V_v1 m c) _).trans (transpose_apply _ _ _ _ _ fun b => ?_)
  match b with
  | 0 => blk_simp [index2]; rfl
  | 1 => blk_simp [index2]; rfl
  | 2 => blk_simp [index2]; show 256 * t.val + J.val = t.val * 256 + J.val; omega

/-- and the words' block two slabs of 128 columns. -/
theorem iblk3_apply (c : Dev nD) (t : Fin cfg0.N) (h : Fin 2) (r : Fin 1792) (j : Fin 128) (q : Fin 148) (hq : q.val = 2 * t.val + h.val) :
    iblk m c 3 t (ix3 h r j) = m ((c.tc : Thread nD τ).loc main_arg3) (ix3 q r j) := by
  blk_simp [iblk]
  refine (congrFun (V_main_arg3 m c) _).trans (congrArg _ ?_)
  funext a; match a with
  | 0 => exact Fin.ext (by blk_simp [index3]; show t.val * 2 + h.val = q.val; omega)
  | 1 => exact Fin.ext (by blk_simp [index3])
  | 2 => exact Fin.ext (by blk_simp [index3])

/-- Column `J` of block `t` takes the words of its own output column. -/
theorem sparse_block (c : Dev nD) (t : Fin cfg0.N) (J : Fin 256) :
    sparseBits (fun r => iblk m c 3 t (ix3 ⟨J.val / 128, by omega⟩ r ⟨J.val % 128, Nat.mod_lt _ (by decide)⟩))
      = sparseColumn (m ((c.tc : Thread nD τ).loc main_arg3)) (col t J) := by
  unfold sparseColumn
  refine congrArg sparseBits (funext fun r => ?_)
  refine (iblk3_apply m c t ⟨J.val / 128, by omega⟩ r ⟨J.val % 128, Nat.mod_lt _ (by decide)⟩ ⟨(col t J).val / 128, by omega⟩ ?_).trans ?_
  · show (256 * t.val + J.val) / 128 = 2 * t.val + J.val / 128; omega
  · refine congrArg (fun j => m ((c.tc : Thread nD τ).loc main_arg3) (ix3 _ r j)) (Fin.ext ?_)
    show J.val % 128 = (256 * t.val + J.val) % 128; omega

/-- Element `y` of block `t` of a result sits at row `y 0`, column `256 t + y 1`. -/
theorem emb4 (t : Fin cfg0.N) (y : T768x256.Idx) : (win0_4.blk t).view.emb y = ix2 (y 0) (col t (y 1)) := by
  funext a; match a with
  | 0 => exact Fin.ext (by blk_simp [index4])
  | 1 => exact Fin.ext (by blk_simp [index4]; show t.val * 256 + (y 1).val = 256 * t.val + (y 1).val; omega)
theorem emb5 (t : Fin cfg0.N) (y : T768x256.Idx) : (win0_5.blk t).view.emb y = ix2 (y 0) (col t (y 1)) := by
  funext a; match a with
  | 0 => exact Fin.ext (by blk_simp [index5])
  | 1 => exact Fin.ext (by blk_simp [index5]; show t.val * 256 + (y 1).val = 256 * t.val + (y 1).val; omega)

/-- The sparse result's array. -/
theorem array5 (c : Dev nD) : (dats m 0 c).arrAt 5 cfg0.N
    = sparseResult (m ((c.tc : Thread nD τ).loc main_arg0)) (m ((c.tc : Thread nD τ).loc main_arg3)) := by
  refine (dats m 0 c).arrAt_eq_of_covers 5 _ (by decide +kernel) fun t hf y => ?_
  blk_simp
  rw [after0_5]
  refine Eq.trans ?_ (congrArg _ (emb5 t y).symm)
  obtain ⟨i, J, rfl⟩ : ∃ (i : Fin 768) (J : Fin 256), y = ix2 i J := ⟨y 0, y 1, eq_ix2 y⟩
  refine (out6_apply (iblk m c 0 t) (iblk m c 1 t) (iblk m c 2 t) (iblk m c 3 t) i J).trans ?_
  rw [sparse_block]
  simp only [iblk0_apply]
  rfl

/-- The rounded result's array. -/
theorem array4 (c : Dev nD) : (dats m 0 c).arrAt 4 cfg0.N
    = result (m ((c.tc : Thread nD τ).loc main_arg0)) (m ((c.tc : Thread nD τ).loc main_arg1)) (m ((c.tc : Thread nD τ).loc main_arg2))
        (m ((c.tc : Thread nD τ).loc main_arg3)) := by
  refine (dats m 0 c).arrAt_eq_of_covers 4 _ (by decide +kernel) fun t hf y => ?_
  blk_simp
  rw [after0_4]
  refine Eq.trans ?_ (congrArg _ (emb4 t y).symm)
  obtain ⟨i, J, rfl⟩ : ∃ (i : Fin 768) (J : Fin 256), y = ix2 i J := ⟨y 0, y 1, eq_ix2 y⟩
  refine (out5_apply (iblk m c 0 t) (iblk m c 1 t) (iblk m c 2 t) (iblk m c 3 t) i J).trans ?_
  rw [sparse_block]
  simp only [iblk0_apply, iblk1_apply, iblk2_apply]
  rfl

/-- Every run leaves the two results, and the arguments unchanged. -/
theorem run_values : θ_run defs (onTc (τ := τ) (main (F := Ideal))) ⟨m, fun _ => 0, ρ⟩ (fun r => ∀ c : Dev nD,
      r.2.mem ((c.tc : Thread nD τ).loc main_v2_0) = result (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_v2_1)
        = sparseResult (m ((c.tc : Thread nD τ).loc main_arg0)) (m ((c.tc : Thread nD τ).loc main_arg3))) :=
  (θ_run defs _ _).mono (fun _ h c => ⟨(Pipeline.FramePost.out_eq h c 4).trans (array4 m c), (Pipeline.FramePost.out_eq h c 5).trans (array5 m c)⟩)
    (run_main m ρ)

end Cert.KernelIdeal.Hand

end
-- ==== Proof.Lookup.lean ====
/- The reference's decode: four selections on a code's bits read the table at the code. -/
module

public import proofs.«01_k».proof.Proof.Gen.ReferenceIdeal.Read
public import proofs.«01_k».proof.Proof.Target

@[expose] public section

noncomputable section

namespace Cert.ReferenceIdeal.Hand

open Cert.ReferenceIdeal Cert.ReferenceIdeal.Gen Cert.ReferenceIdeal.Read Cert.Spec
open Idealize.ShloMosaic

variable {F : FTy → Type} [FloatOps F]

/-! ## The decode as one function of the codes and the tables -/

/-- An integer in every place. -/
def everywhere (v : BitVec 32) : IVec S28x64x18944x1 32 := broadcastInDim S28x64x18944x1 ![] bcast_S_S28x64x18944x1 (constantI S_ 32 v)

/-- Where bit `b` of the codes is one. -/
def bitAt (f : IVec S28x64x18944x1 32) (b : BitVec 32) : IVec S28x64x18944x1 1 :=
  cmpi .eq (andi (Host.shrsi f (everywhere b)) (everywhere 1#32)) (everywhere 1#32)

/-- The tables, one row for all codes of a group. -/
def tables (lut : (⟨S28x18944x16, .i16⟩ : BufTy).Contents (Elt F)) : FVec F S28x1x18944x16 .bf16 :=
  broadcastInDim S28x1x18944x16 ![0, 2, 3] bcast_S28x18944x16_S28x1x18944x16_0_2_3 (bitcastToFloat (F := F) .bf16 lut)

/-- The eight candidates left by bit 0, -/
def eight (f : IVec S28x64x18944x1 32) (lut : (⟨S28x18944x16, .i16⟩ : BufTy).Contents (Elt F)) : FVec F S28x64x18944x8 .bf16 :=
  select (broadcastInDim S28x64x18944x8 ![0, 1, 2, 3] bcast_S28x64x18944x1_S28x64x18944x8_0_1_2_3 (bitAt f 0#32))
    (broadcastInDim S28x64x18944x8 ![0, 1, 2, 3] bcast_S28x1x18944x8_S28x64x18944x8_0_1_2_3
      (Host.slice S28x1x18944x8 ![0, 0, 0, 1] ![1, 1, 1, 2] (tables lut) slicesBy_S28x1x18944x16_S28x1x18944x8_0s1_0s1_0s1_1s2))
    (broadcastInDim S28x64x18944x8 ![0, 1, 2, 3] bcast_S28x1x18944x8_S28x64x18944x8_0_1_2_3
      (Host.slice S28x1x18944x8 ![0, 0, 0, 0] ![1, 1, 1, 2] (tables lut) slicesBy_S28x1x18944x16_S28x1x18944x8_0s1_0s1_0s1_0s2))

/-- the four left by bit 1, -/
def four (f : IVec S28x64x18944x1 32) (t : FVec F S28x64x18944x8 .bf16) : FVec F S28x64x18944x4 .bf16 :=
  select (broadcastInDim S28x64x18944x4 ![0, 1, 2, 3] bcast_S28x64x18944x1_S28x64x18944x4_0_1_2_3 (bitAt f 1#32))
    (Host.slice S28x64x18944x4 ![0, 0, 0, 1] ![1, 1, 1, 2] t slicesBy_S28x64x18944x8_S28x64x18944x4_0s1_0s1_0s1_1s2)
    (Host.slice S28x64x18944x4 ![0, 0, 0, 0] ![1, 1, 1, 2] t slicesBy_S28x64x18944x8_S28x64x18944x4_0s1_0s1_0s1_0s2)

/-- the two left by bit 2, -/
def two (f : IVec S28x64x18944x1 32) (t : FVec F S28x64x18944x4 .bf16) : FVec F S28x64x18944x2 .bf16 :=
  select (broadcastInDim S28x64x18944x2 ![0, 1, 2, 3] bcast_S28x64x18944x1_S28x64x18944x2_0_1_2_3 (bitAt f 2#32))
    (Host.slice S28x64x18944x2 ![0, 0, 0, 1] ![1, 1, 1, 2] t slicesBy_S28x64x18944x4_S28x64x18944x2_0s1_0s1_0s1_1s2)
    (Host.slice S28x64x18944x2 ![0, 0, 0, 0] ![1, 1, 1, 2] t slicesBy_S28x64x18944x4_S28x64x18944x2_0s1_0s1_0s1_0s2)

/-- and the one bit 3 takes. -/
def one (f : IVec S28x64x18944x1 32) (t : FVec F S28x64x18944x2 .bf16) : FVec F S28x64x18944x1 .bf16 :=
  select (bitAt f 3#32)
    (Host.slice S28x64x18944x1 ![0, 0, 0, 1] ![1, 1, 1, 2] t slicesBy_S28x64x18944x2_S28x64x18944x1_0s1_0s1_0s1_1s2)
    (Host.slice S28x64x18944x1 ![0, 0, 0, 0] ![1, 1, 1, 2] t slicesBy_S28x64x18944x2_S28x64x18944x1_0s1_0s1_0s1_0s2)

/-- A field of codes decoded. -/
def decode (f : IVec S1792x18944 32) (lut : (⟨S28x18944x16, .i16⟩ : BufTy).Contents (Elt F)) : FVec F S1792x18944 .bf16 :=
  let g : IVec S28x64x18944x1 32 := shapeCast _ f shapeCasts_S1792x18944_S28x64x18944x1
  shapeCast _ (shapeCast S28x64x18944 (one g (two g (four g (eight g lut)))) shapeCasts_S28x64x18944x1_S28x64x18944)
    shapeCasts_S28x64x18944_S1792x18944

theorem low_decode (x1 : (⟨S1792x18944, .i8⟩ : BufTy).Contents (Elt F)) (x2 : (⟨S28x18944x16, .i16⟩ : BufTy).Contents (Elt F)) :
    val_main_v44 (F := F) x1 x2 = decode (val_main_v4 (F := F) x1) x2 := rfl
theorem high_decode (x1 : (⟨S1792x18944, .i8⟩ : BufTy).Contents (Elt F)) (x2 : (⟨S28x18944x16, .i16⟩ : BufTy).Contents (Elt F)) :
    val_main_v86 (F := F) x1 x2 = decode (val_main_v46 (F := F) x1) x2 := rfl

/-! ## The decode at an element -/

/-- Bit `b` of a code. -/
def bit (e : Fin 16) (b : Nat) : Nat := e.val / 2 ^ b % 2

/-- The test of bit `b`. -/
theorem test_bit : ∀ (e : Fin 16) (b : Fin 4), IntOp.cmpi .eq (IntOp.andi (IntOp.shrsi .host (BitVec.ofNat 32 e.val) (BitVec.ofNat 32 b.val)) 1#32) 1#32
    = if bit e b.val = 1 then 1#1 else 0#1 := by decide

theorem bitAt_apply (f : IVec S28x64x18944x1 32) (i : S28x64x18944x1.Idx) (e : Fin 16) (b : Fin 4) (h : f i = BitVec.ofNat 32 e.val) :
    bitAt f (BitVec.ofNat 32 b.val) i = if bit e b.val = 1 then 1#1 else 0#1 := by
  rw [← test_bit e b, ← h]
  rfl

/-- A selection by a bit takes the odd or the even candidate. -/
theorem select_bit {α : Type} (e : Fin 16) (b : Nat) (u v w : α) (h1 : bit e b = 1 → u = w) (h0 : bit e b = 0 → v = w) :
    Scalar.select (if bit e b = 1 then 1#1 else 0#1) u v = w := by
  unfold Scalar.select
  by_cases h : bit e b = 1
  · rw [if_pos h]; exact (if_pos rfl).trans (h1 h)
  · rw [if_neg h]
    exact (if_neg (by decide)).trans (h0 (by have : bit e b < 2 := Nat.mod_lt _ (by decide); omega))

variable (f : IVec S28x64x18944x1 32) (lut : (⟨S28x18944x16, .i16⟩ : BufTy).Contents (Elt F))
  (g : Fin 28) (q : Fin 64) (j : Fin 18944) (e : Fin 16) (hf : f (ix4 g q j 0) = BitVec.ofNat 32 e.val)

theorem tables_apply (z : Fin 1) (n : Fin 16) : tables lut (ix4 g z j n) = FloatOps.ofBits .bf16 (lut (ix3 g j n)) := by
  unfold tables
  refine (broadcastInDim_apply _ _ _ _ (ix3 g j n) fun a => ?_).trans rfl
  match a with
  | 0 => rfl
  | 1 => rfl
  | 2 => rfl

include hf

theorem eight_apply (n : Fin 8) (i : Fin 16) (hi : i.val = 2 * n.val + bit e 0) :
    eight f lut (ix4 g q j n) = FloatOps.ofBits .bf16 (lut (ix3 g j i)) := by
  have hc : (broadcastInDim S28x64x18944x8 ![0, 1, 2, 3] bcast_S28x64x18944x1_S28x64x18944x8_0_1_2_3 (bitAt f 0#32)) (ix4 g q j n)
      = if bit e 0 = 1 then 1#1 else 0#1 := by
    refine (broadcastInDim_apply _ _ _ _ (ix4 g q j 0) fun a => ?_).trans (bitAt_apply f _ e 0 hf)
    match a with
    | 0 => rfl
    | 1 => rfl
    | 2 => rfl
    | 3 => rfl
  have side : ∀ (y : FVec F S28x1x18944x8 .bf16),
      (broadcastInDim S28x64x18944x8 ![0, 1, 2, 3] bcast_S28x1x18944x8_S28x64x18944x8_0_1_2_3 y) (ix4 g q j n) = y (ix4 g 0 j n) := fun y => by
    refine broadcastInDim_apply _ _ _ _ (ix4 g 0 j n) fun a => ?_
    match a with
    | 0 => rfl
    | 1 => rfl
    | 2 => rfl
    | 3 => rfl
  unfold eight
  show Scalar.select _ _ _ = _
  rw [hc, side, side, ← tables_apply lut g j 0 i]
  refine select_bit e 0 _ _ _ (fun h => ?_) fun h => ?_
  all_goals
    refine congrArg (tables lut) (funext fun a => ?_)
    match a with
    | 0 => exact Fin.ext (by show 0 + 1 * g.val = g.val; omega)
    | 1 => rfl
    | 2 => exact Fin.ext (by show 0 + 1 * j.val = j.val; omega)
    | 3 => exact Fin.ext (by first | (show 1 + 2 * n.val = i.val; omega) | (show 0 + 2 * n.val = i.val; omega))

theorem four_apply (t : FVec F S28x64x18944x8 .bf16) (n : Fin 4) (i : Fin 8) (hi : i.val = 2 * n.val + bit e 1) :
    four f t (ix4 g q j n) = t (ix4 g q j i) := by
  have hc : (broadcastInDim S28x64x18944x4 ![0, 1, 2, 3] bcast_S28x64x18944x1_S28x64x18944x4_0_1_2_3 (bitAt f 1#32)) (ix4 g q j n)
      = if bit e 1 = 1 then 1#1 else 0#1 := by
    refine (broadcastInDim_apply _ _ _ _ (ix4 g q j 0) fun a => ?_).trans (bitAt_apply f _ e 1 hf)
    match a with
    | 0 => rfl
    | 1 => rfl
    | 2 => rfl
    | 3 => rfl
  unfold four
  show Scalar.select _ _ _ = _
  rw [hc]
  refine select_bit e 1 _ _ _ (fun h => ?_) fun h => ?_
  all_goals
    refine congrArg t (funext fun a => ?_)
    match a with
    | 0 => exact Fin.ext (by show 0 + 1 * g.val = g.val; omega)
    | 1 => exact Fin.ext (by show 0 + 1 * q.val = q.val; omega)
    | 2 => exact Fin.ext (by show 0 + 1 * j.val = j.val; omega)
    | 3 => exact Fin.ext (by first | (show 1 + 2 * n.val = i.val; omega) | (show 0 + 2 * n.val = i.val; omega))

theorem two_apply (t : FVec F S28x64x18944x4 .bf16) (n : Fin 2) (i : Fin 4) (hi : i.val = 2 * n.val + bit e 2) :
    two f t (ix4 g q j n) = t (ix4 g q j i) := by
  have hc : (broadcastInDim S28x64x18944x2 ![0, 1, 2, 3] bcast_S28x64x18944x1_S28x64x18944x2_0_1_2_3 (bitAt f 2#32)) (ix4 g q j n)
      = if bit e 2 = 1 then 1#1 else 0#1 := by
    refine (broadcastInDim_apply _ _ _ _ (ix4 g q j 0) fun a => ?_).trans (bitAt_apply f _ e 2 hf)
    match a with
    | 0 => rfl
    | 1 => rfl
    | 2 => rfl
    | 3 => rfl
  unfold two
  show Scalar.select _ _ _ = _
  rw [hc]
  refine select_bit e 2 _ _ _ (fun h => ?_) fun h => ?_
  all_goals
    refine congrArg t (funext fun a => ?_)
    match a with
    | 0 => exact Fin.ext (by show 0 + 1 * g.val = g.val; omega)
    | 1 => exact Fin.ext (by show 0 + 1 * q.val = q.val; omega)
    | 2 => exact Fin.ext (by show 0 + 1 * j.val = j.val; omega)
    | 3 => exact Fin.ext (by first | (show 1 + 2 * n.val = i.val; omega) | (show 0 + 2 * n.val = i.val; omega))

theorem one_apply (t : FVec F S28x64x18944x2 .bf16) (i : Fin 2) (hi : i.val = bit e 3) :
    one f t (ix4 g q j 0) = t (ix4 g q j i) := by
  have hc := bitAt_apply f (ix4 g q j 0) e 3 hf
  unfold one
  show Scalar.select (bitAt f (BitVec.ofNat 32 (3 : Fin 4).val) (ix4 g q j 0)) _ _ = _
  rw [hc]
  refine select_bit e 3 _ _ _ (fun h => ?_) fun h => ?_
  all_goals
    refine congrArg t (funext fun a => ?_)
    match a with
    | 0 => exact Fin.ext (by show 0 + 1 * g.val = g.val; omega)
    | 1 => exact Fin.ext (by show 0 + 1 * q.val = q.val; omega)
    | 2 => exact Fin.ext (by show 0 + 1 * j.val = j.val; omega)
    | 3 => exact Fin.ext (by first | (show 1 + 2 * 0 = i.val; omega) | (show 0 + 2 * 0 = i.val; omega))

omit hf in
/-- The bits make the code. -/
theorem bits_sum : ∀ e : Fin 16, e.val = 2 * (2 * (2 * bit e 3 + bit e 2) + bit e 1) + bit e 0 := by decide

/-- The four selections read the table at the code. -/
theorem lookup : one f (two f (four f (eight f lut))) (ix4 g q j 0) = FloatOps.ofBits .bf16 (lut (ix3 g j e)) := by
  have b : ∀ k, bit e k < 2 := fun k => Nat.mod_lt _ (by decide)
  have b0 := b 0
  have b1 := b 1
  have b2 := b 2
  have b3 := b 3
  rw [one_apply f g q j e hf _ ⟨bit e 3, b3⟩ rfl,
    two_apply f g q j e hf _ ⟨bit e 3, b3⟩ ⟨2 * bit e 3 + bit e 2, by omega⟩ rfl,
    four_apply f g q j e hf _ ⟨2 * bit e 3 + bit e 2, by omega⟩ ⟨2 * (2 * bit e 3 + bit e 2) + bit e 1, by omega⟩ rfl,
    eight_apply f lut g q j e hf ⟨2 * (2 * bit e 3 + bit e 2) + bit e 1, by omega⟩ e (bits_sum e)]

omit hf in
/-- A decoded element. -/
theorem decode_apply (f : IVec S1792x18944 32) (r : Fin 1792) (e : Fin 16) (hf : f (ix2 r j) = BitVec.ofNat 32 e.val) :
    decode f lut (ix2 r j) = FloatOps.ofBits .bf16 (lut (ix3 ⟨r.val / 64, by omega⟩ j e)) := by
  have hr := r.isLt
  have hj := j.isLt
  unfold decode
  refine (shapeCast_apply _ shapeCasts_S28x64x18944_S1792x18944 (ix2 r j) (ix3 ⟨r.val / 64, by omega⟩ ⟨r.val % 64, Nat.mod_lt _ (by decide)⟩ j) ?_).trans ?_
  · rewrite [Shape.rowMajor_val_three, Shape.rowMajor_val_two]
    show (r.val / 64 * 64 + r.val % 64) * 18944 + j.val = r.val * 18944 + j.val
    omega
  refine (shapeCast_apply _ shapeCasts_S28x64x18944x1_S28x64x18944 _ (ix4 ⟨r.val / 64, by omega⟩ ⟨r.val % 64, Nat.mod_lt _ (by decide)⟩ j 0) ?_).trans ?_
  · rewrite [Shape.rowMajor_val_four, Shape.rowMajor_val_three]
    show ((r.val / 64 * 64 + r.val % 64) * 18944 + j.val) * 1 + 0 = (r.val / 64 * 64 + r.val % 64) * 18944 + j.val
    omega
  refine lookup _ lut _ _ j e ?_
  refine (shapeCast_apply f shapeCasts_S1792x18944_S28x64x18944x1 _ (ix2 r j) ?_).trans hf
  rewrite [Shape.rowMajor_val_four, Shape.rowMajor_val_two]
  show r.val * 18944 + j.val = ((r.val / 64 * 64 + r.val % 64) * 18944 + j.val) * 1 + 0
  omega

end Cert.ReferenceIdeal.Hand

end
-- ==== Proof.Reference.lean ====
/- The reference's two results over the reals. -/
module

public import proofs.«01_k».proof.Proof.Lookup

@[expose] public section

noncomputable section

namespace Cert.ReferenceIdeal.Hand

open Cert.ReferenceIdeal Cert.ReferenceIdeal.Gen Cert.ReferenceIdeal.Read Cert.Spec
open Idealize.ShloMosaic

variable (x0 : (⟨S3x256x3584, .bf16⟩ : BufTy).Contents (Elt Ideal)) (x1 : (⟨S1792x18944, .i8⟩ : BufTy).Contents (Elt Ideal))
  (x2 : (⟨S28x18944x16, .i16⟩ : BufTy).Contents (Elt Ideal)) (x3 : (⟨S148x1792x128, .i32⟩ : BufTy).Contents (Elt Ideal))
  (i : Fin 768) (j : Fin 18944) (r : Fin 1792)

/-! ## The features -/

/-- The even features -/
theorem even_features : val_main_v87 (F := Ideal) x0 (ix2 i r) = tokens x0 i ⟨2 * r.val % 3584, Nat.mod_lt _ (by decide)⟩ := by
  refine congrArg (val_main_v0 (F := Ideal) x0) (funext fun a => ?_)
  have hr := r.isLt
  match a with
  | 0 => exact Fin.ext (by show 0 + 1 * i.val = i.val; omega)
  | 1 => exact Fin.ext (by show 0 + 2 * r.val = 2 * r.val % 3584; omega)

/-- and the odd ones. -/
theorem odd_features : val_main_v89 (F := Ideal) x0 (ix2 i r) = tokens x0 i ⟨(2 * r.val + 1) % 3584, Nat.mod_lt _ (by decide)⟩ := by
  refine congrArg (val_main_v0 (F := Ideal) x0) (funext fun a => ?_)
  have hr := r.isLt
  match a with
  | 0 => exact Fin.ext (by show 0 + 1 * i.val = i.val; omega)
  | 1 => exact Fin.ext (by show 1 + 2 * r.val = (2 * r.val + 1) % 3584; omega)

/-! ## The dense weights -/

/-- The low field is the low code. -/
theorem low_field (c : BitVec 8) : IntOp.andi (c.setWidth 32) 15#32 = BitVec.ofNat 32 (lowCode c).val := by
  revert c; decide

/-- The high field is the high code. -/
theorem high_field (c : BitVec 8) : IntOp.shrsi .host (c.setWidth 32) 4#32 = BitVec.ofNat 32 (highCode c).val := by
  revert c; decide

theorem even_weights : val_main_v44 (F := Ideal) x1 x2 (ix2 r j) = Ideal.ofBits .bf16 (denseColumn x1 x2 j (2 * r.val)) := by
  have hr := r.isLt
  rw [low_decode]
  refine (decode_apply x2 j _ r (lowCode (x1 (ix2 r j))) (low_field _)).trans ?_
  unfold denseColumn denseBits codeOf
  have e1 : (⟨2 * r.val / 2 % 1792, Nat.mod_lt _ (by decide)⟩ : Fin 1792) = r := Fin.ext (by show 2 * r.val / 2 % 1792 = r.val; omega)
  have e2 : (⟨2 * r.val / 128 % 28, Nat.mod_lt _ (by decide)⟩ : Fin 28) = ⟨r.val / 64, by omega⟩ :=
    Fin.ext (by show 2 * r.val / 128 % 28 = r.val / 64; omega)
  rw [if_pos (by omega : 2 * r.val % 2 = 0), e1, e2]
  rfl

theorem odd_weights : val_main_v86 (F := Ideal) x1 x2 (ix2 r j) = Ideal.ofBits .bf16 (denseColumn x1 x2 j (2 * r.val + 1)) := by
  have hr := r.isLt
  rw [high_decode]
  refine (decode_apply x2 j _ r (highCode (x1 (ix2 r j))) (high_field _)).trans ?_
  unfold denseColumn denseBits codeOf
  have e1 : (⟨(2 * r.val + 1) / 2 % 1792, Nat.mod_lt _ (by decide)⟩ : Fin 1792) = r :=
    Fin.ext (by show (2 * r.val + 1) / 2 % 1792 = r.val; omega)
  have e2 : (⟨(2 * r.val + 1) / 128 % 28, Nat.mod_lt _ (by decide)⟩ : Fin 28) = ⟨r.val / 64, by omega⟩ :=
    Fin.ext (by show (2 * r.val + 1) / 128 % 28 = r.val / 64; omega)
  rw [if_neg (by omega : ¬ (2 * r.val + 1) % 2 = 0), e1, e2]
  rfl

/-! ## The sparse weights -/

/-- The packed word of row pair `r`, output column `j`. -/
theorem word_apply : val_main_v93 (F := Ideal) x3 (ix2 r j) = x3 (ix3 ⟨j.val / 128, by omega⟩ r ⟨j.val % 128, Nat.mod_lt _ (by decide)⟩) := by
  have hr := r.isLt
  have hj := j.isLt
  rw [val_main_v93_apply, val_main_v92_apply]
  refine congrArg x3 (funext fun a => ?_)
  match a with
  | 0 => exact Fin.ext (by show (r.val * 18944 + j.val) / 128 % 148 = j.val / 128; omega)
  | 1 => exact Fin.ext (by show (r.val * 18944 + j.val) / 18944 = r.val; omega)
  | 2 => exact Fin.ext (by show (r.val * 18944 + j.val) % 128 = j.val % 128; omega)

theorem low_half (w : BitVec 32) : (IntOp.andi w 65535#32).setWidth 16 = w.extractLsb' 0 16 := by
  show (w &&& 65535#32).setWidth 16 = _
  ext k hk
  simp only [BitVec.getElem_setWidth, BitVec.getLsbD_and, BitVec.getElem_extractLsb', Nat.zero_add]
  have : ∀ k : Fin 16, (65535#32).getLsbD k.val = true := by decide
  rw [this ⟨k, hk⟩, Bool.and_true]

theorem high_half (w : BitVec 32) : (IntOp.shrui .host w 16#32).setWidth 16 = w.extractLsb' 16 16 := by
  show (w >>> 16).setWidth 16 = _
  ext k hk
  simp only [BitVec.getElem_setWidth, BitVec.getLsbD_ushiftRight, BitVec.getElem_extractLsb']

theorem even_sparse : val_main_v97 (F := Ideal) x3 (ix2 r j) = Ideal.ofBits .bf16 (sparseColumn x3 j (2 * r.val)) := by
  have hr := r.isLt
  refine congrArg (Ideal.ofBits .bf16) ((low_half (val_main_v93 (F := Ideal) x3 (ix2 r j))).trans ?_)
  rw [word_apply]
  unfold sparseColumn sparseBits
  have e1 : (⟨2 * r.val / 2 % 1792, Nat.mod_lt _ (by decide)⟩ : Fin 1792) = r := Fin.ext (by show 2 * r.val / 2 % 1792 = r.val; omega)
  rw [e1, (by omega : 2 * r.val % 2 = 0)]

theorem odd_sparse : val_main_v101 (F := Ideal) x3 (ix2 r j) = Ideal.ofBits .bf16 (sparseColumn x3 j (2 * r.val + 1)) := by
  have hr := r.isLt
  refine congrArg (Ideal.ofBits .bf16) ((high_half (val_main_v93 (F := Ideal) x3 (ix2 r j))).trans ?_)
  rw [word_apply]
  unfold sparseColumn sparseBits
  have e1 : (⟨(2 * r.val + 1) / 2 % 1792, Nat.mod_lt _ (by decide)⟩ : Fin 1792) = r :=
    Fin.ext (by show (2 * r.val + 1) / 2 % 1792 = r.val; omega)
  rw [e1, (by omega : (2 * r.val + 1) % 2 = 1)]

/-! ## The results -/

/-- The dense product: the even features' sum and the odd ones'. -/
theorem dense_apply : val_main_v91 (F := Ideal) x0 x1 x2 (ix2 i j) = rowSum (tokens x0 i) (denseColumn x1 x2 j) := by
  rw [rowSum_even_odd]
  show val_main_v88 (F := Ideal) x0 x1 x2 (ix2 i j) + val_main_v90 (F := Ideal) x0 x1 x2 (ix2 i j) = _
  rw [val_main_v88_apply, val_main_v90_apply]
  refine congrArg₂ (· + ·) (Finset.sum_congr rfl fun k _ => ?_) (Finset.sum_congr rfl fun k _ => ?_)
  · rw [show lidx_main_v88 (ix2 i j) k = ix2 i k from eq_ix2 _, show ridx_main_v88 (ix2 i j) k = ix2 k j from eq_ix2 _, even_features,
      even_weights]
    rfl
  · rw [show lidx_main_v90 (ix2 i j) k = ix2 i k from eq_ix2 _, show ridx_main_v90 (ix2 i j) k = ix2 k j from eq_ix2 _, odd_features,
      odd_weights]
    rfl

/-- The sparse product, likewise. -/
theorem sparse_apply : val_main_v106 (F := Ideal) x0 x3 (ix2 i j) = rowSum (tokens x0 i) (sparseColumn x3 j) := by
  rw [rowSum_even_odd]
  show val_main_v103 (F := Ideal) x0 x3 (ix2 i j) + val_main_v105 (F := Ideal) x0 x3 (ix2 i j) = _
  rw [val_main_v103_apply, val_main_v105_apply]
  refine congrArg₂ (· + ·) (Finset.sum_congr rfl fun k _ => ?_) (Finset.sum_congr rfl fun k _ => ?_)
  · rw [show lidx_main_v103 (ix2 i j) k = ix2 i k from eq_ix2 _, show ridx_main_v103 (ix2 i j) k = ix2 k j from eq_ix2 _, even_sparse,
      show val_main_v102 (F := Ideal) x0 = val_main_v87 (F := Ideal) x0 from rfl, even_features]
    rfl
  · rw [show lidx_main_v105 (ix2 i j) k = ix2 i k from eq_ix2 _, show ridx_main_v105 (ix2 i j) k = ix2 k j from eq_ix2 _, odd_sparse,
      show val_main_v104 (F := Ideal) x0 = val_main_v89 (F := Ideal) x0 from rfl, odd_features]
    rfl

theorem sparse_eq : val_main_v106 (F := Ideal) x0 x3 = sparseResult x0 x3 := funext fun p => by
  rw [eq_ix2 p]; exact sparse_apply x0 x3 (p 0) (p 1)

theorem result_eq : val_main_v108 (F := Ideal) x0 x1 x2 x3 = result x0 x1 x2 x3 := funext fun p => by
  rw [eq_ix2 p]
  show val_main_v91 (F := Ideal) x0 x1 x2 (ix2 (p 0) (p 1)) + val_main_v106 (F := Ideal) x0 x3 (ix2 (p 0) (p 1)) = _
  rw [dense_apply x0 x1 x2 (p 0) (p 1), sparse_eq]
  rfl

/-! ## The run -/

variable (m : (ℓ : Loc nD τ sig) → Buf (Elt Ideal) ℓ) (ρ : Dev nD → PrngReg)

/-- Every run leaves the two results, and the arguments unchanged. -/
theorem run_values : θ_run defs (onTc (τ := τ) (main (F := Ideal))) ⟨m, fun _ => 0, ρ⟩ (fun s => ∀ c : Dev nD,
      s.2.mem ((c.tc : Thread nD τ).loc main_v108) = result (m ((c.tc : Thread nD τ).loc main_arg0)) (m ((c.tc : Thread nD τ).loc main_arg1))
        (m ((c.tc : Thread nD τ).loc main_arg2)) (m ((c.tc : Thread nD τ).loc main_arg3))
      ∧ s.2.mem ((c.tc : Thread nD τ).loc main_v106)
        = sparseResult (m ((c.tc : Thread nD τ).loc main_arg0)) (m ((c.tc : Thread nD τ).loc main_arg3))
      ∧ s.2.mem ((c.tc : Thread nD τ).loc main_arg0) = m ((c.tc : Thread nD τ).loc main_arg0)
      ∧ s.2.mem ((c.tc : Thread nD τ).loc main_arg1) = m ((c.tc : Thread nD τ).loc main_arg1)
      ∧ s.2.mem ((c.tc : Thread nD τ).loc main_arg2) = m ((c.tc : Thread nD τ).loc main_arg2)
      ∧ s.2.mem ((c.tc : Thread nD τ).loc main_arg3) = m ((c.tc : Thread nD τ).loc main_arg3)) :=
  (θ_run defs _ _).mono (fun _ h c => ⟨(h c).1.trans ((val_main_v108_eq m c).trans (result_eq _ _ _ _)),
      (h c).2.1.trans ((val_main_v106_eq _ _).trans (sparse_eq _ _)), (h c).2.2⟩)
    (Value.run m ρ)

/-- The frame: the arguments end unchanged and every counter at zero. -/
theorem frame : θ_run defs (onTc (τ := τ) (main (F := Ideal))) ⟨m, fun _ => 0, ρ⟩ (fun s => (∀ c : Dev nD,
      s.2.mem ((c.tc : Thread nD τ).loc main_arg0) = m ((c.tc : Thread nD τ).loc main_arg0)
      ∧ s.2.mem ((c.tc : Thread nD τ).loc main_arg1) = m ((c.tc : Thread nD τ).loc main_arg1)
      ∧ s.2.mem ((c.tc : Thread nD τ).loc main_arg2) = m ((c.tc : Thread nD τ).loc main_arg2)
      ∧ s.2.mem ((c.tc : Thread nD τ).loc main_arg3) = m ((c.tc : Thread nD τ).loc main_arg3))
      ∧ s.2.sem = fun _ => 0) :=
  (θ_run defs _ _).mono (fun s h => ⟨fun c => (h c).2.2, sem_eq_zero_of_no_sems (by decide) s.2⟩) (Value.run m ρ)

end Cert.ReferenceIdeal.Hand

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.FramePrinted
public import proofs.«01_k».proof.Proof.Arrays
public import proofs.«01_k».proof.Proof.Reference
public import Idealize.ShloMosaic.Adequacy
public import Idealize.ShloMosaic.Init

@[expose] public section

noncomputable section

namespace Cert.Proof

open Idealize.ShloMosaic Idealize.SL.Sem Cert.Kernel

/-- The kernel's results are the reference's. -/
theorem algebraic : Cert.algebraic_KernelIdeal_ReferenceIdeal := fun m ρ m' ρ' _ h =>
  ⟨fun c => Spec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    fun c => Spec.sparseResult (m ((c.tc : Thread Cert.KernelIdeal.nD Cert.KernelIdeal.τ).loc Cert.KernelIdeal.main_arg0))
      (m ((c.tc : Thread Cert.KernelIdeal.nD Cert.KernelIdeal.τ).loc Cert.KernelIdeal.main_arg3)),
    (θ_run Cert.KernelIdeal.defs _ _).mono (fun _ k c => ⟨(k.1 c).1, (k.1 c).2, k.2 c⟩)
      (θ_run_and (Cert.KernelIdeal.Hand.run_values m ρ) (Cert.KernelIdeal.Hand.unchanged m ρ)),
    (θ_run Cert.ReferenceIdeal.defs _ _).mono (fun _ k c => by
        obtain ⟨h0, h1, h2, h3⟩ := h c
        obtain ⟨k0, k1, k2⟩ := k c
        refine ⟨k0.trans ?_, k1.trans ?_, k2⟩
        · rw [h0, h1, h2, h3]
        · rw [h0, h3])
      (Cert.ReferenceIdeal.Hand.run_values m' ρ')⟩

theorem claim : Cert.Claim := ⟨Cert.Kernel.Gen.facts, Cert.KernelIdeal.Gen.facts, Cert.ReferenceIdeal.Gen.facts,
  fun m ρ _ => Cert.Kernel.Hand.frame m ρ, fun m ρ _ => Cert.KernelIdeal.Hand.frame m ρ,
  fun m ρ _ => Cert.ReferenceIdeal.Hand.frame m ρ, trivial, algebraic⟩

end Cert.Proof

end
